-- ==== Defs.lean ====
def Pre_Kernel (m : (ℓ : Loc Cert.Kernel.nD Cert.Kernel.τ Cert.Kernel.sig) → Buf (Elt Bits) ℓ) : Prop :=
  True

def Pre_Flip (m : (ℓ : Loc Cert.Flip.nD Cert.Flip.τ Cert.Flip.sig) → Buf (Elt Bits) ℓ) : Prop :=
  True

def Pre_FlipIdeal (m : (ℓ : Loc Cert.FlipIdeal.nD Cert.FlipIdeal.τ Cert.FlipIdeal.sig) → Buf (Elt Ideal) ℓ) : Prop :=
  True

def Pre_FlipIdeal_drawn [hPre_drawn : Cert.Pre_drawn.Facts] (m : (ℓ : Loc Cert.FlipIdeal.nD Cert.FlipIdeal.τ Cert.FlipIdeal.sig) → Buf (Elt Ideal) ℓ) : Prop :=
  ∀ c : Dev Cert.FlipIdeal.nD,
    (Cert.Pre_drawn.fn (F := Ideal) (m ((c.tc : Thread Cert.FlipIdeal.nD Cert.FlipIdeal.τ).loc Cert.FlipIdeal.main_arg0))) = (fun _ => 1#1)

def Pre_Exact (m : (ℓ : Loc Cert.Exact.nD Cert.Exact.τ Cert.Exact.sig) → Buf (Elt Bits) ℓ) : Prop :=
  True

def Pre_ExactIdeal (m : (ℓ : Loc Cert.ExactIdeal.nD Cert.ExactIdeal.τ Cert.ExactIdeal.sig) → Buf (Elt Ideal) ℓ) : Prop :=
  True

def Pre_ExactIdeal_counted [hPre_counted : Cert.Pre_counted.Facts] (m : (ℓ : Loc Cert.ExactIdeal.nD Cert.ExactIdeal.τ Cert.ExactIdeal.sig) → Buf (Elt Ideal) ℓ) : Prop :=
  ∀ c : Dev Cert.ExactIdeal.nD,
    (Cert.Pre_counted.fn (F := Ideal) (m ((c.tc : Thread Cert.ExactIdeal.nD Cert.ExactIdeal.τ).loc Cert.ExactIdeal.main_arg0))) = (fun _ => 1#1)

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_counted [hPre_counted : Cert.Pre_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counted.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Flip [hFlip : Cert.Flip.Facts] : Prop :=
  ∀ (m : (ℓ : Loc Cert.Flip.nD Cert.Flip.τ Cert.Flip.sig) → Buf (Elt Bits) ℓ) (g : Dev Cert.Flip.nD → PrngReg), Pre_Flip m →
    θ_run (Cert.Flip.defs (F := Bits)) (onTc (τ := Cert.Flip.τ) (Cert.Flip.main (F := Bits))) ⟨m, fun _ => 0, g⟩ (fun r => (∀ c : Dev Cert.Flip.nD,
      r.2.mem ((c.tc : Thread Cert.Flip.nD Cert.Flip.τ).loc Cert.Flip.main_arg0) = m ((c.tc : Thread Cert.Flip.nD Cert.Flip.τ).loc Cert.Flip.main_arg0))
      ∧ r.2.sem = fun _ => 0)

def quiescent_FlipIdeal [hFlipIdeal : Cert.FlipIdeal.Facts] : Prop :=
  ∀ (m : (ℓ : Loc Cert.FlipIdeal.nD Cert.FlipIdeal.τ Cert.FlipIdeal.sig) → Buf (Elt Ideal) ℓ) (g : Dev Cert.FlipIdeal.nD → PrngReg), Pre_FlipIdeal m →
    θ_run (Cert.FlipIdeal.defs (F := Ideal)) (onTc (τ := Cert.FlipIdeal.τ) (Cert.FlipIdeal.main (F := Ideal))) ⟨m, fun _ => 0, g⟩ (fun r => (∀ c : Dev Cert.FlipIdeal.nD,
      r.2.mem ((c.tc : Thread Cert.FlipIdeal.nD Cert.FlipIdeal.τ).loc Cert.FlipIdeal.main_arg0) = m ((c.tc : Thread Cert.FlipIdeal.nD Cert.FlipIdeal.τ).loc Cert.FlipIdeal.main_arg0))
      ∧ r.2.sem = fun _ => 0)

def quiescent_FlipIdeal_pre_drawn [hFlipIdeal : Cert.FlipIdeal.Facts] [hPre_drawn : Cert.Pre_drawn.Facts] : Prop :=
  ∀ (m : (ℓ : Loc Cert.FlipIdeal.nD Cert.FlipIdeal.τ Cert.FlipIdeal.sig) → Buf (Elt Ideal) ℓ) (g : Dev Cert.FlipIdeal.nD → PrngReg), Pre_FlipIdeal_drawn m →
    θ_run (Cert.FlipIdeal.defs (F := Ideal)) (onTc (τ := Cert.FlipIdeal.τ) (Cert.FlipIdeal.main (F := Ideal))) ⟨m, fun _ => 0, g⟩ (fun r => (∀ c : Dev Cert.FlipIdeal.nD,
      r.2.mem ((c.tc : Thread Cert.FlipIdeal.nD Cert.FlipIdeal.τ).loc Cert.FlipIdeal.main_arg0) = m ((c.tc : Thread Cert.FlipIdeal.nD Cert.FlipIdeal.τ).loc Cert.FlipIdeal.main_arg0))
      ∧ r.2.sem = fun _ => 0)

def quiescent_Exact [hExact : Cert.Exact.Facts] : Prop :=
  ∀ (m : (ℓ : Loc Cert.Exact.nD Cert.Exact.τ Cert.Exact.sig) → Buf (Elt Bits) ℓ) (g : Dev Cert.Exact.nD → PrngReg), Pre_Exact m →
    θ_run (Cert.Exact.defs (F := Bits)) (onTc (τ := Cert.Exact.τ) (Cert.Exact.main (F := Bits))) ⟨m, fun _ => 0, g⟩ (fun r => (∀ c : Dev Cert.Exact.nD,
      r.2.mem ((c.tc : Thread Cert.Exact.nD Cert.Exact.τ).loc Cert.Exact.main_arg0) = m ((c.tc : Thread Cert.Exact.nD Cert.Exact.τ).loc Cert.Exact.main_arg0))
      ∧ r.2.sem = fun _ => 0)

def quiescent_ExactIdeal [hExactIdeal : Cert.ExactIdeal.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0))
      ∧ r.2.sem = fun _ => 0)

def quiescent_ExactIdeal_pre_counted [hExactIdeal : Cert.ExactIdeal.Facts] [hPre_counted : Cert.Pre_counted.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal_counted m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_counted [hReferenceIdeal : Cert.ReferenceIdeal.Facts] [hPre_counted : Cert.Pre_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Flip_FlipIdeal : Prop :=
  True

def preserves_Exact_ExactIdeal : Prop :=
  IdealRules.named_const.Statement Cert.ExactIdeal.κ "inv_pi" .f32 0x3EA2F983#32 ((Real.pi⁻¹ : ℝ) : EReal)
  ∧ IdealRules.named_const.Statement Cert.ExactIdeal.κ "pi" .f32 0x40490FDB#32 ((Real.pi : ℝ) : EReal)

def preserves_Plain_PlainIdeal : Prop :=
  True

def holds_FlipIdeal_near_pre_drawn [hFlipIdeal : Cert.FlipIdeal.Facts] [hPre_drawn : Cert.Pre_drawn.Facts] [hPost_near : Cert.Post_near.Facts] : Prop :=
  ∀ (m : (ℓ : Loc Cert.FlipIdeal.nD Cert.FlipIdeal.τ Cert.FlipIdeal.sig) → Buf (Elt Ideal) ℓ) (g : Dev Cert.FlipIdeal.nD → PrngReg), Pre_FlipIdeal_drawn m →
    θ_run (Cert.FlipIdeal.defs (F := Ideal)) (onTc (τ := Cert.FlipIdeal.τ) (Cert.FlipIdeal.main (F := Ideal))) ⟨m, fun _ => 0, g⟩ (fun r => ∀ c : Dev Cert.FlipIdeal.nD,
      r.2.mem ((c.tc : Thread Cert.FlipIdeal.nD Cert.FlipIdeal.τ).loc Cert.FlipIdeal.main_arg0) = m ((c.tc : Thread Cert.FlipIdeal.nD Cert.FlipIdeal.τ).loc Cert.FlipIdeal.main_arg0)
      ∧ (Cert.Post_near.fn (F := Ideal) (m ((c.tc : Thread Cert.FlipIdeal.nD Cert.FlipIdeal.τ).loc Cert.FlipIdeal.main_arg0)) (r.2.mem ((c.tc : Thread Cert.FlipIdeal.nD Cert.FlipIdeal.τ).loc Cert.FlipIdeal.main_v1))) = (fun _ => 1#1))

def algebraic_ExactIdeal_ReferenceIdeal_pre_counted [hExactIdeal : Cert.ExactIdeal.Facts] [hReferenceIdeal : Cert.ReferenceIdeal.Facts] [hPre_counted : Cert.Pre_counted.Facts] : Prop :=
  ∀ (m : (ℓ : Loc Cert.ExactIdeal.nD Cert.ExactIdeal.τ Cert.ExactIdeal.sig) → Buf (Elt Ideal) ℓ) (g : Dev Cert.ExactIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ExactIdeal_counted m →
    (∀ c : Dev Cert.ExactIdeal.nD,
      m' ((c.tc : Thread Cert.ReferenceIdeal.nD Cert.ReferenceIdeal.τ).loc Cert.ReferenceIdeal.main_arg0) = m ((c.tc : Thread Cert.ExactIdeal.nD Cert.ExactIdeal.τ).loc Cert.ExactIdeal.main_arg0)) →
    ∃ (v0 : (c : Dev Cert.ExactIdeal.nD) → Buf (Elt Ideal) ((c.tc : Thread Cert.ExactIdeal.nD Cert.ExactIdeal.τ).loc Cert.ExactIdeal.main_v1)),
      θ_run (Cert.ExactIdeal.defs (F := Ideal)) (onTc (τ := Cert.ExactIdeal.τ) (Cert.ExactIdeal.main (F := Ideal))) ⟨m, fun _ => 0, g⟩ (fun r => ∀ c : Dev Cert.ExactIdeal.nD,
          r.2.mem ((c.tc : Thread Cert.ExactIdeal.nD Cert.ExactIdeal.τ).loc Cert.ExactIdeal.main_v1) = v0 c
          ∧ r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_PlainIdeal_ReferenceIdeal [hPlainIdeal : Cert.PlainIdeal.Facts] [hReferenceIdeal : Cert.ReferenceIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_PlainIdeal m →
    (∀ c : Dev Cert.PlainIdeal.nD,
      m' ((c.tc : Thread Cert.ReferenceIdeal.nD Cert.ReferenceIdeal.τ).loc Cert.ReferenceIdeal.main_arg0) = m ((c.tc : Thread Cert.PlainIdeal.nD Cert.PlainIdeal.τ).loc Cert.PlainIdeal.main_arg0)) →
    ∃ (v0 : (c : Dev Cert.PlainIdeal.nD) → Buf (Elt Ideal) ((c.tc : Thread Cert.PlainIdeal.nD Cert.PlainIdeal.τ).loc Cert.PlainIdeal.main_v1)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v1) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hFlip : Cert.Flip.Facts) (hFlipIdeal : Cert.FlipIdeal.Facts) (hExact : Cert.Exact.Facts) (hExactIdeal : Cert.ExactIdeal.Facts) (hPlain : Cert.Plain.Facts) (hPlainIdeal : Cert.PlainIdeal.Facts) (hReferenceIdeal : Cert.ReferenceIdeal.Facts) (hPre_drawn : Cert.Pre_drawn.Facts) (hPre_counted : Cert.Pre_counted.Facts) (hPost_near : Cert.Post_near.Facts),
    quiescent_Kernel (hKernel := hKernel)
    ∧ quiescent_Flip (hFlip := hFlip)
    ∧ quiescent_FlipIdeal (hFlipIdeal := hFlipIdeal)
    ∧ quiescent_FlipIdeal_pre_drawn (hFlipIdeal := hFlipIdeal) (hPre_drawn := hPre_drawn)
    ∧ quiescent_Exact (hExact := hExact)
    ∧ quiescent_ExactIdeal (hExactIdeal := hExactIdeal)
    ∧ quiescent_ExactIdeal_pre_counted (hExactIdeal := hExactIdeal) (hPre_counted := hPre_counted)
    ∧ quiescent_Plain (hPlain := hPlain)
    ∧ quiescent_PlainIdeal (hPlainIdeal := hPlainIdeal)
    ∧ quiescent_ReferenceIdeal (hReferenceIdeal := hReferenceIdeal)
    ∧ quiescent_ReferenceIdeal_pre_counted (hReferenceIdeal := hReferenceIdeal) (hPre_counted := hPre_counted)
    ∧ preserves_Flip_FlipIdeal
    ∧ preserves_Exact_ExactIdeal
    ∧ preserves_Plain_PlainIdeal
    ∧ holds_FlipIdeal_near_pre_drawn (hFlipIdeal := hFlipIdeal) (hPre_drawn := hPre_drawn) (hPost_near := hPost_near)
    ∧ algebraic_ExactIdeal_ReferenceIdeal_pre_counted (hExactIdeal := hExactIdeal) (hReferenceIdeal := hReferenceIdeal) (hPre_counted := hPre_counted)
    ∧ algebraic_PlainIdeal_ReferenceIdeal (hPlainIdeal := hPlainIdeal) (hReferenceIdeal := hReferenceIdeal)
-- ==== Post_near.lean ====
abbrev S16384 : Shape := ⟨1, ![16384]⟩
abbrev S16384x256 : Shape := ⟨2, ![16384, 256]⟩
abbrev S128 : Shape := ⟨1, ![128]⟩
abbrev S_ : Shape := ⟨0, ![]⟩
abbrev S16384x1 : Shape := ⟨2, ![16384, 1]⟩
abbrev S1x128 : Shape := ⟨2, ![1, 128]⟩
abbrev S16384x128 : Shape := ⟨2, ![16384, 128]⟩

class Facts : Prop where
  bcast_S_S128 : S_.BroadcastsInDim S128 (![] : Fin 0 → Fin S128.rank)
  bcast_S16384_S16384x1_0 : S16384.BroadcastsInDim S16384x1 (![0] : Fin 1 → Fin S16384x1.rank)
  bcast_S128_S1x128_1 : S128.BroadcastsInDim S1x128 (![1] : Fin 1 → Fin S1x128.rank)
  bcast_S16384x1_S16384x128_0_1 : S16384x1.BroadcastsInDim S16384x128 (![0, 1] : Fin 2 → Fin S16384x128.rank)
  bcast_S1x128_S16384x128_0_1 : S1x128.BroadcastsInDim S16384x128 (![0, 1] : Fin 2 → Fin S16384x128.rank)
  concatenates_S16384x128_S16384x128_S16384x256_d1 : Shape.Concatenates [S16384x128, S16384x128] S16384x256 1
  bcast_S_S16384x256 : S_.BroadcastsInDim S16384x256 (![] : Fin 0 → Fin S16384x256.rank)

variable [Facts]

def fn {F : FTy → Type} [FloatOps F] (main_arg0 : FVec F S16384 .f32) (main_arg1 : FVec F S16384x256 .f32) : IVec S16384x256 1 :=
  let main_v0 : FVec F S128 .f32 := sitofp .f32 (iotaInDim S128 32 0)
  let main_cst : FVec F S_ .f32 := constant S_ .f32 0xBD94869B#32
  let main_v1 : FVec F S128 .f32 := broadcastInDim S128 ![] bcast_S_S128 main_cst
  let main_v2 : FVec F S128 .f32 := mulf main_v0 main_v1
  let main_v3 : FVec F S128 .f32 := Host.exp main_v2
  let main_v4 : FVec F S16384x1 .f32 := broadcastInDim S16384x1 ![0] bcast_S16384_S16384x1_0 main_arg0
  let main_v5 : FVec F S1x128 .f32 := broadcastInDim S1x128 ![1] bcast_S128_S1x128_1 main_v3
  let main_v6 : FVec F S16384x128 .f32 := broadcastInDim S16384x128 ![0, 1] bcast_S16384x1_S16384x128_0_1 main_v4
  let main_v7 : FVec F S16384x128 .f32 := broadcastInDim S16384x128 ![0, 1] bcast_S1x128_S16384x128_0_1 main_v5
  let main_v8 : FVec F S16384x128 .f32 := mulf main_v6 main_v7
  let main_v9 : FVec F S16384x128 .f32 := Host.sin main_v8
  let main_v10 : FVec F S16384x128 .f32 := Host.cos main_v8
  let main_v11 : FVec F S16384x256 .f32 := (fun a b => concatenate S16384x256 1 [⟨S16384x128, a⟩, ⟨S16384x128, b⟩] concatenates_S16384x128_S16384x128_S16384x256_d1) main_v9 main_v10
  let main_v12 : FVec F S16384x256 .f32 := subf main_arg1 main_v11
  let main_v13 : FVec F S16384x256 .f32 := Host.absf main_v12
  let main_cst_0 : FVec F S_ .f32 := constant S_ .f32 0x3AC49BA6#32
  let main_v14 : FVec F S16384x256 .f32 := broadcastInDim S16384x256 ![] bcast_S_S16384x256 main_cst_0
  let main_v15 : IVec S16384x256 1 := cmpf .ole main_v13 main_v14
  main_v15
-- ==== Pre_counted.lean ====
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384 .f32) : IVec S16384 1 :=
  let main_v0 : FVec F S16384 .f32 := Host.absf main_arg0
  let main_cst : FVec F S_ .f32 := constant S_ .f32 0x4F800000#32
  let main_v1 : FVec F S16384 .f32 := broadcastInDim S16384 ![] bcast_S_S16384 main_cst
  let main_v2 : IVec S16384 1 := cmpf .ole main_v0 main_v1
  main_v2
-- ==== Pre_drawn.lean ====
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384 .f32) : IVec S16384 1 :=
  let main_v0 : FVec F S16384 .f32 := Host.absf main_arg0
  let main_cst : FVec F S_ .f32 := constant S_ .f32 0x447A0000#32
  let main_v1 : FVec F S16384 .f32 := broadcastInDim S16384 ![] bcast_S_S16384 main_cst
  let main_v2 : IVec S16384 1 := cmpf .ole main_v0 main_v1
  main_v2
-- ==== Kernel.lean ====
abbrev S16384 : Shape := ⟨1, ![16384]⟩
abbrev S16384x1 : Shape := ⟨2, ![16384, 1]⟩
abbrev S16384x256 : Shape := ⟨2, ![16384, 256]⟩
abbrev S8192x1 : Shape := ⟨2, ![8192, 1]⟩
abbrev S8192x256 : Shape := ⟨2, ![8192, 256]⟩
abbrev S1x128 : Shape := ⟨2, ![1, 128]⟩
abbrev S8192x128 : Shape := ⟨2, ![8192, 128]⟩

abbrev nBuf : Space → Nat
  | .hbm => 3
  | .vmem => 4
  | .smem => 0
  | _ => 0

abbrev bufTy : (tb : Table) → Fin (tcTables nBuf tb) → BufTy
  | .hbm, ⟨0, _⟩ => ⟨S16384, .f32⟩
  | .hbm, ⟨1, _⟩ => ⟨S16384x1, .f32⟩
  | .hbm, ⟨2, _⟩ => ⟨S16384x256, .f32⟩
  | .local _ .vmem, ⟨0, _⟩ => ⟨S8192x1, .f32⟩
  | .local _ .vmem, ⟨1, _⟩ => ⟨S8192x1, .f32⟩
  | .local _ .vmem, ⟨2, _⟩ => ⟨S8192x256, .f32⟩
  | .local _ .vmem, ⟨3, _⟩ => ⟨S8192x256, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Flip.lean ====
abbrev S16384 : Shape := ⟨1, ![16384]⟩
abbrev S16384x1 : Shape := ⟨2, ![16384, 1]⟩
abbrev S16384x256 : Shape := ⟨2, ![16384, 256]⟩
abbrev S8192x1 : Shape := ⟨2, ![8192, 1]⟩
abbrev S8192x256 : Shape := ⟨2, ![8192, 256]⟩
abbrev S1x128 : Shape := ⟨2, ![1, 128]⟩
abbrev S8192x128 : Shape := ⟨2, ![8192, 128]⟩

abbrev nBuf : Space → Nat
  | .hbm => 3
  | .vmem => 4
  | .smem => 0
  | _ => 0

abbrev bufTy : (tb : Table) → Fin (tcTables nBuf tb) → BufTy
  | .hbm, ⟨0, _⟩ => ⟨S16384, .f32⟩
  | .hbm, ⟨1, _⟩ => ⟨S16384x1, .f32⟩
  | .hbm, ⟨2, _⟩ => ⟨S16384x256, .f32⟩
  | .local _ .vmem, ⟨0, _⟩ => ⟨S8192x1, .f32⟩
  | .local _ .vmem, ⟨1, _⟩ => ⟨S8192x1, .f32⟩
  | .local _ .vmem, ⟨2, _⟩ => ⟨S8192x256, .f32⟩
  | .local _ .vmem, ⟨3, _⟩ => ⟨S8192x256, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Exact.lean ====
abbrev S16384 : Shape := ⟨1, ![16384]⟩
abbrev S16384x1 : Shape := ⟨2, ![16384, 1]⟩
abbrev S16384x256 : Shape := ⟨2, ![16384, 256]⟩
abbrev S8192x1 : Shape := ⟨2, ![8192, 1]⟩
abbrev S8192x256 : Shape := ⟨2, ![8192, 256]⟩
abbrev S1x128 : Shape := ⟨2, ![1, 128]⟩
abbrev S8192x128 : Shape := ⟨2, ![8192, 128]⟩

abbrev nBuf : Space → Nat
  | .hbm => 3
  | .vmem => 4
  | .smem => 0
  | _ => 0

abbrev bufTy : (tb : Table) → Fin (tcTables nBuf tb) → BufTy
  | .hbm, ⟨0, _⟩ => ⟨S16384, .f32⟩
  | .hbm, ⟨1, _⟩ => ⟨S16384x1, .f32⟩
  | .hbm, ⟨2, _⟩ => ⟨S16384x256, .f32⟩
  | .local _ .vmem, ⟨0, _⟩ => ⟨S8192x1, .f32⟩
  | .local _ .vmem, ⟨1, _⟩ => ⟨S8192x1, .f32⟩
  | .local _ .vmem, ⟨2, _⟩ => ⟨S8192x256, .f32⟩
  | .local _ .vmem, ⟨3, _⟩ => ⟨S8192x256, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ExactIdeal.lean ====
variable {F : FTy → Type} [FloatOps F] [Named F]
def κ : String → Option EReal := fun
  | "inv_pi" => some ((Real.pi⁻¹ : ℝ) : EReal)
  | "pi" => some ((Real.pi : ℝ) : EReal)
  | _ => none
-- ==== Plain.lean ====
abbrev S16384 : Shape := ⟨1, ![16384]⟩
abbrev S16384x1 : Shape := ⟨2, ![16384, 1]⟩
abbrev S16384x256 : Shape := ⟨2, ![16384, 256]⟩
abbrev S1024x1 : Shape := ⟨2, ![1024, 1]⟩
abbrev S1024x256 : Shape := ⟨2, ![1024, 256]⟩
abbrev S1x128 : Shape := ⟨2, ![1, 128]⟩
abbrev S1024x128 : Shape := ⟨2, ![1024, 128]⟩

abbrev nBuf : Space → Nat
  | .hbm => 3
  | .vmem => 4
  | .smem => 0
  | _ => 0

abbrev bufTy : (tb : Table) → Fin (tcTables nBuf tb) → BufTy
  | .hbm, ⟨0, _⟩ => ⟨S16384, .f32⟩
  | .hbm, ⟨1, _⟩ => ⟨S16384x1, .f32⟩
  | .hbm, ⟨2, _⟩ => ⟨S16384x256, .f32⟩
  | .local _ .vmem, ⟨0, _⟩ => ⟨S1024x1, .f32⟩
  | .local _ .vmem, ⟨1, _⟩ => ⟨S1024x1, .f32⟩
  | .local _ .vmem, ⟨2, _⟩ => ⟨S1024x256, .f32⟩
  | .local _ .vmem, ⟨3, _⟩ => ⟨S1024x256, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384 : Shape := ⟨1, ![16384]⟩
abbrev S128 : Shape := ⟨1, ![128]⟩
abbrev S_ : Shape := ⟨0, ![]⟩
abbrev S16384x1 : Shape := ⟨2, ![16384, 1]⟩
abbrev S1x128 : Shape := ⟨2, ![1, 128]⟩
abbrev S16384x128 : Shape := ⟨2, ![16384, 128]⟩
abbrev S16384x256 : Shape := ⟨2, ![16384, 256]⟩

abbrev nBuf : Space → Nat
  | .hbm => 14
  | .vmem => 0
  | .smem => 0
  | _ => 0

abbrev bufTy : (tb : Table) → Fin (tcTables nBuf tb) → BufTy
  | .hbm, ⟨0, _⟩ => ⟨S16384, .f32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S16384x1, .f32⟩
  | .hbm, ⟨7, _⟩ => ⟨S1x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x256, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proof.Consts.lean ====
/-
  The numbers that the programs' constants denote. (Hand-written, untrusted.)
-/
module

public import Idealize.ShloMosaic.PureOps
public import Idealize.ShloMosaic.PureOps.Ideal

@[expose] public section

noncomputable section

namespace Cert.Emb

open Idealize.ShloMosaic

/-- The word of the scale of the frequencies' exponents. -/
theorem ofBits_scale : Ideal.ofBits .f32 0xBD94869B#32 = ((-9733787 / 134217728 : ℝ) : EReal) := by
  simp [Ideal.ofBits, Ideal.ieee, -EReal.coe_mul]; norm_num

/-- The word of the float nearest `1/π`. -/
theorem ofBits_invPi : Ideal.ofBits .f32 0x3EA2F983#32 = ((10680707 / 33554432 : ℝ) : EReal) := by
  simp [Ideal.ofBits, Ideal.ieee, -EReal.coe_mul]; norm_num

/-- The word of the sine polynomial's first coefficient. -/
theorem ofBits_s1 : Ideal.ofBits .f32 0x40490416#32 = ((6586891 / 2097152 : ℝ) : EReal) := by
  simp [Ideal.ofBits, Ideal.ieee, -EReal.coe_mul]; norm_num

/-- The word of the sine polynomial's second coefficient. -/
theorem ofBits_s3 : Ideal.ofBits .f32 0xC0A488A2#32 = ((-5391441 / 1048576 : ℝ) : EReal) := by
  simp [Ideal.ofBits, Ideal.ieee, -EReal.coe_mul]; norm_num

/-- The word of the sine polynomial's third coefficient. -/
theorem ofBits_s5 : Ideal.ofBits .f32 0x401457ED#32 = ((9721837 / 4194304 : ℝ) : EReal) := by
  simp [Ideal.ofBits, Ideal.ieee, -EReal.coe_mul]; norm_num

/-- The word of the cosine polynomial's first coefficient. -/
theorem ofBits_c0 : Ideal.ofBits .f32 0x3F7FE471#32 = ((16770161 / 16777216 : ℝ) : EReal) := by
  simp [Ideal.ofBits, Ideal.ieee, -EReal.coe_mul]; norm_num

/-- The word of the cosine polynomial's second coefficient. -/
theorem ofBits_c2 : Ideal.ofBits .f32 0xC09CC635#32 = ((-10274357 / 2097152 : ℝ) : EReal) := by
  simp [Ideal.ofBits, Ideal.ieee, -EReal.coe_mul]; norm_num

/-- The word of the cosine polynomial's third coefficient. -/
theorem ofBits_c4 : Ideal.ofBits .f32 0x4067F82E#32 = ((7601175 / 2097152 : ℝ) : EReal) := by
  simp [Ideal.ofBits, Ideal.ieee, -EReal.coe_mul]; norm_num

/-- The word of the bound on the error. -/
theorem ofBits_eps : Ideal.ofBits .f32 0x3AC49BA6#32 = ((6442451 / 4294967296 : ℝ) : EReal) := by
  simp [Ideal.ofBits, Ideal.ieee, -EReal.coe_mul]; norm_num

/-- The word of the bound `1000` on the argument. -/
theorem ofBits_drawn : Ideal.ofBits .f32 0x447A0000#32 = ((1000 : ℝ) : EReal) := by
  simp [Ideal.ofBits, Ideal.ieee, -EReal.coe_mul]; norm_num

/-- The word of the bound `2 ^ 32` on the argument. -/
theorem ofBits_counted : Ideal.ofBits .f32 0x4F800000#32 = ((4294967296 : ℝ) : EReal) := by
  simp [Ideal.ofBits, Ideal.ieee, -EReal.coe_mul]; norm_num

/-- The word of `-0.0` denotes zero. -/
theorem ofBits_negZero : Ideal.ofBits .f32 0x80000000#32 = 0 := by
  simp [Ideal.ofBits, Ideal.ieee]

end Cert.Emb

end
-- ==== Proof.Bounds.lean ====
/-
  What the comparisons of the predicates say over the extended reals. (Hand-written, untrusted.)
-/
module

public import proofs.«01_k».proof.Proof.Gen.Pre_drawn
public import proofs.«01_k».proof.Proof.Gen.Pre_counted
public import proofs.«01_k».proof.Proof.Consts

@[expose] public section

noncomputable section

namespace Cert.Emb

open Idealize.ShloMosaic

/-- An extended real whose absolute value is at most a real number is itself a real number, of no larger absolute value. -/
theorem real_of_le {x : EReal} {c : ℝ} (h : max x (-x) ≤ (c : EReal)) : ∃ t : ℝ, |t| ≤ c ∧ x = t := by
  obtain ⟨hx, hn⟩ := max_le_iff.1 h
  induction x with
  | bot => exact absurd hn (by rw [EReal.neg_bot]; exact not_le.2 (EReal.coe_lt_top c))
  | top => exact absurd hx (not_le.2 (EReal.coe_lt_top c))
  | coe t =>
    rw [← EReal.coe_neg] at hn
    exact ⟨t, abs_le'.2 ⟨EReal.coe_le_coe_iff.1 hx, EReal.coe_le_coe_iff.1 hn⟩, rfl⟩

/-- A comparison "at most" yields the bit `1` exactly when it holds. -/
theorem cmp_ole (x y : EReal) : Ideal.cmp .ole x y = 1#1 ↔ x ≤ y := by
  by_cases h : x ≤ y
  · simp [Ideal.cmp, h]
  · simp [Ideal.cmp, h]

/-- A real number within a bound of another one passes the comparison of their distance with the bound. -/
theorem cmp_close {x y c : ℝ} (h : |x - y| ≤ c) :
    Ideal.cmp .ole (max ((x : EReal) - y) (-((x : EReal) - y))) (c : EReal) = 1#1 := by
  rw [cmp_ole, ← EReal.coe_sub, ← EReal.coe_neg]
  exact max_le (EReal.coe_le_coe_iff.2 (abs_le'.1 h).1) (EReal.coe_le_coe_iff.2 (abs_le'.1 h).2)

/-- The precondition `drawn`: every time is a real number between `-1000` and `1000`. -/
theorem drawn_real {a : FVec Ideal Cert.Pre_drawn.S16384 .f32} (h : Cert.Pre_drawn.fn (F := Ideal) a = fun _ => 1#1)
    (j : Cert.Pre_drawn.S16384.Idx) : ∃ t : ℝ, |t| ≤ 1000 ∧ a j = t := by
  have e : Ideal.cmp .ole (max (a j) (-(a j))) (Ideal.ofBits .f32 0x447A0000#32) = 1#1 := congrFun h j
  rw [ofBits_drawn, cmp_ole] at e
  exact real_of_le e

/-- The precondition `counted`: every time is a real number between `-2 ^ 32` and `2 ^ 32`. -/
theorem counted_real {a : FVec Ideal Cert.Pre_counted.S16384 .f32} (h : Cert.Pre_counted.fn (F := Ideal) a = fun _ => 1#1)
    (j : Cert.Pre_counted.S16384.Idx) : ∃ t : ℝ, |t| ≤ 4294967296 ∧ a j = t := by
  have e : Ideal.cmp .ole (max (a j) (-(a j))) (Ideal.ofBits .f32 0x4F800000#32) = 1#1 := congrFun h j
  rw [ofBits_counted, cmp_ole] at e
  exact real_of_le e

end Cert.Emb

end
-- ==== Proof.Taylor.lean ====
/-
  The alternating Taylor bounds of the sine and the cosine, for every number of terms.
  (Hand-written, untrusted.)
-/
module

public import Mathlib.Analysis.SpecialFunctions.Trigonometric.DerivHyp
public import Mathlib.Analysis.SpecialFunctions.Trigonometric.Basic
public import Mathlib.Analysis.Calculus.Deriv.MeanValue
public import Mathlib.Analysis.Calculus.Deriv.Pow
public import Mathlib.Analysis.Complex.RealDeriv
public import Mathlib.Tactic.LinearCombination
public import Mathlib.Tactic.Linarith
public import Mathlib.Tactic.FieldSimp

@[expose] public section

noncomputable section

namespace Cert.Emb

/-- The cosine is the sine's derivative. -/
theorem hasDerivAt_sin (x : ℝ) : HasDerivAt Real.sin (Real.cos x) x := by
  have h := (((Complex.hasDerivAt_sinh ((x : ℂ) * Complex.I)).comp (x : ℂ)
    ((hasDerivAt_id (x : ℂ)).mul_const Complex.I)).mul_const (-Complex.I)).real_of_complex
  have e : ∀ y : ℂ, Complex.sinh (y * Complex.I) * -Complex.I = Complex.sin y := fun y => by
    rw [Complex.sinh_mul_I, mul_assoc, mul_neg, Complex.I_mul_I]
    ring
  have e' : Complex.cosh ((x : ℂ) * Complex.I) * (1 * Complex.I) * -Complex.I = Complex.cos x := by
    rw [Complex.cosh_mul_I, mul_assoc, one_mul, mul_neg, Complex.I_mul_I]
    ring
  rw [e'] at h
  refine (h.congr_deriv (Complex.cos_ofReal_re x)).congr_of_eventuallyEq (.of_forall fun y => ?_)
  show Real.sin y = (Complex.sinh ((y : ℂ) * Complex.I) * -Complex.I).re
  rw [e, Complex.sin_ofReal_re]

/-- Minus the sine is the cosine's derivative. -/
theorem hasDerivAt_cos (x : ℝ) : HasDerivAt Real.cos (-Real.sin x) x := by
  have h := ((Complex.hasDerivAt_cosh ((x : ℂ) * Complex.I)).comp (x : ℂ)
    ((hasDerivAt_id (x : ℂ)).mul_const Complex.I)).real_of_complex
  have e' : Complex.sinh ((x : ℂ) * Complex.I) * (1 * Complex.I) = -Complex.sin x := by
    rw [Complex.sinh_mul_I, mul_assoc, one_mul, Complex.I_mul_I]
    ring
  rw [e'] at h
  refine (h.congr_deriv ?_).congr_of_eventuallyEq (.of_forall fun y => ?_)
  · rw [Complex.neg_re, Complex.sin_ofReal_re]
  · show Real.cos y = (Complex.cosh ((y : ℂ) * Complex.I)).re
    rw [Complex.cosh_mul_I, Complex.cos_ofReal_re]

/-- The first `n` terms of the sine's series. -/
def sinSum (n : ℕ) (x : ℝ) : ℝ := ∑ k ∈ Finset.range n, (-1) ^ k * x ^ (2 * k + 1) / (2 * k + 1).factorial

/-- The first `n` terms of the cosine's series. -/
def cosSum (n : ℕ) (x : ℝ) : ℝ := ∑ k ∈ Finset.range n, (-1) ^ k * x ^ (2 * k) / (2 * k).factorial

/-- The sine's partial sum has the cosine's as its derivative. -/
theorem hasDerivAt_sinSum (n : ℕ) (x : ℝ) : HasDerivAt (sinSum n) (cosSum n x) x := by
  unfold sinSum cosSum
  apply HasDerivAt.fun_sum
  intro k _
  have h := ((hasDerivAt_pow (2 * k + 1) x).const_mul ((-1 : ℝ) ^ k)).div_const ((2 * k + 1).factorial : ℝ)
  refine h.congr_deriv ?_
  rw [Nat.factorial_succ]
  have hp : ((2 * k).factorial : ℝ) ≠ 0 := by positivity
  have hq : ((2 * k + 1 : ℕ) : ℝ) ≠ 0 := by positivity
  simp only [Nat.add_sub_cancel, Nat.cast_mul]
  field_simp

/-- The cosine's partial sum of one more term has minus the sine's as its derivative. -/
theorem hasDerivAt_cosSum (n : ℕ) (x : ℝ) : HasDerivAt (cosSum (n + 1)) (-sinSum n x) x := by
  have e : cosSum (n + 1) = fun y : ℝ => (∑ k ∈ Finset.range n, (-1 : ℝ) ^ (k + 1) * y ^ (2 * k + 2) / (2 * k + 2).factorial) + 1 := by
    funext y
    unfold cosSum
    rw [Finset.sum_range_succ']
    simp [Nat.mul_add]
  rw [e]
  refine HasDerivAt.add_const _ ?_
  unfold sinSum
  rw [← Finset.sum_neg_distrib]
  apply HasDerivAt.fun_sum
  intro k _
  have h := ((hasDerivAt_pow (2 * k + 2) x).const_mul ((-1 : ℝ) ^ (k + 1))).div_const ((2 * k + 2).factorial : ℝ)
  refine h.congr_deriv ?_
  rw [Nat.factorial_succ]
  have hp : ((2 * k + 1).factorial : ℝ) ≠ 0 := by positivity
  have hq : ((2 * k + 1 + 1 : ℕ) : ℝ) ≠ 0 := by positivity
  rw [show 2 * k + 2 - 1 = 2 * k + 1 from rfl, pow_succ (-1 : ℝ) k]
  simp only [Nat.cast_mul]
  field_simp

/-- A function that starts at `0` and does not fall is not negative to the right of `0`. -/
theorem nonneg_of_deriv {f f' : ℝ → ℝ} (h0 : f 0 = 0) (hd : ∀ x, HasDerivAt f (f' x) x) (hn : ∀ x, 0 ≤ x → 0 ≤ f' x)
    (x : ℝ) (hx : 0 ≤ x) : 0 ≤ f x := by
  have hm : MonotoneOn f (Set.Ici 0) := by
    refine monotoneOn_of_deriv_nonneg (convex_Ici 0) (fun y _ => (hd y).continuousAt.continuousWithinAt)
      (fun y _ => (hd y).differentiableAt.differentiableWithinAt) fun y hy => ?_
    rw [(hd y).deriv]
    exact hn y (interior_subset hy)
  simpa [h0] using hm (Set.mem_Ici.2 le_rfl) (Set.mem_Ici.2 hx) hx

theorem sinSum_zero (n : ℕ) : sinSum n 0 = 0 := by simp [sinSum]

theorem cosSum_zero (n : ℕ) : cosSum (n + 1) 0 = 1 := by
  unfold cosSum
  rw [Finset.sum_range_succ']
  simp

/-- From the cosine's bound of `n` terms, the sine's. -/
theorem sin_alternates_of (n : ℕ) (h : ∀ x, 0 ≤ x → 0 ≤ (-1) ^ n * (Real.cos x - cosSum n x)) :
    ∀ x, 0 ≤ x → 0 ≤ (-1) ^ n * (Real.sin x - sinSum n x) :=
  nonneg_of_deriv (by simp [sinSum_zero])
    (fun x => ((hasDerivAt_sin x).sub (hasDerivAt_sinSum n x)).const_mul _) h

/-- The cosine lies on alternating sides of its partial sums, the first being `1`. -/
theorem cos_alternates (n : ℕ) : ∀ x, 0 ≤ x → 0 ≤ (-1) ^ (n + 1) * (Real.cos x - cosSum (n + 1) x) := by
  induction n with
  | zero =>
    intro x _
    have := Real.cos_le_one x
    simp [cosSum]
    exact this
  | succ n ih =>
    refine nonneg_of_deriv (f' := fun x => (-1) ^ (n + 1 + 1) * (-Real.sin x - -sinSum (n + 1) x)) (by simp [cosSum_zero])
      (fun x => ((hasDerivAt_cos x).sub (hasDerivAt_cosSum (n + 1) x)).const_mul _) fun x hx => ?_
    have := sin_alternates_of (n + 1) ih x hx
    rw [pow_succ]
    linarith

/-- The sine lies on alternating sides of its partial sums, the first being `x`. -/
theorem sin_alternates (n : ℕ) : ∀ x, 0 ≤ x → 0 ≤ (-1) ^ (n + 1) * (Real.sin x - sinSum (n + 1) x) :=
  sin_alternates_of (n + 1) (cos_alternates n)

end Cert.Emb

end
-- ==== Proof.Polynomials.lean ====
/-
  How far the kernel's two polynomials lie from `sin (π d)` and `cos (π d)` on `[-1/2, 1/2]`.
  (Hand-written, untrusted.)
-/
module

public import proofs.«01_k».proof.Proof.Taylor

@[expose] public section

noncomputable section

namespace Cert.Emb

/-- A quarter turn is more than `1.57079632`: the cosine there is still positive. -/
theorem quarter_gt : (157079632 / 100000000 : ℝ) ≤ Real.pi / 2 := by
  by_contra hn
  have h := Real.cos_nonpos_of_pi_div_two_le_of_le (x := 157079632 / 100000000) (not_le.1 hn).le
    (by linarith [Real.two_le_pi])
  have t := cos_alternates 7 (157079632 / 100000000) (by norm_num)
  norm_num [cosSum, Finset.sum_range_succ, Nat.factorial] at t
  linarith

/-- A quarter turn is less than `1.57079633`: the cosine there is negative. -/
theorem quarter_lt : Real.pi / 2 ≤ (157079633 / 100000000 : ℝ) := by
  by_contra hn
  have h := Real.cos_nonneg_of_neg_pi_div_two_le_of_le (x := 157079633 / 100000000)
    (by linarith [Real.two_le_pi]) (not_le.1 hn).le
  have t := cos_alternates 8 (157079633 / 100000000) (by norm_num)
  norm_num [cosSum, Finset.sum_range_succ, Nat.factorial] at t
  linarith

/-- The powers of a quarter turn between those of its two bounds, times a number that is not negative. -/
theorem quarter_pow (n : ℕ) {z : ℝ} (hz : 0 ≤ z) :
    (157079632 / 100000000) ^ n * z ≤ (Real.pi / 2) ^ n * z ∧ (Real.pi / 2) ^ n * z ≤ (157079633 / 100000000) ^ n * z :=
  ⟨mul_le_mul_of_nonneg_right (pow_le_pow_left₀ (by norm_num) quarter_gt n) hz,
    mul_le_mul_of_nonneg_right (pow_le_pow_left₀ (by positivity) quarter_lt n) hz⟩

/-- The Bernstein polynomials are not negative on `[0, 1]`. -/
theorem bernstein {s : ℝ} (h0 : 0 ≤ s) (h1 : s ≤ 1) (j k : ℕ) : 0 ≤ s ^ j * (1 - s) ^ k :=
  mul_nonneg (pow_nonneg h0 j) (pow_nonneg (sub_nonneg.2 h1) k)

/-- The square of the doubled phase, between `0` and `1`. -/
theorem square_mem {d : ℝ} (h : |d| ≤ 1 / 2) : 0 ≤ 4 * d ^ 2 ∧ 4 * d ^ 2 ≤ 1 := by
  have h' := pow_le_pow_left₀ (abs_nonneg d) h 2
  rw [sq_abs] at h'
  constructor
  · positivity
  · linarith

/-- The cosine's polynomial of the square of the phase. -/
def cosPoly (z : ℝ) : ℝ := 16770161 / 16777216 + z * (-10274357 / 2097152 + z * (7601175 / 2097152))

/-- The sine's polynomial of the square of the phase, without the phase in front. -/
def sinPoly (z : ℝ) : ℝ := 6586891 / 2097152 + z * (-5391441 / 1048576 + z * (9721837 / 4194304))

/-- The cosine's polynomial is within `0.00142` of the cosine of half a turn times the phase. -/
theorem cosPoly_close {d : ℝ} (h : |d| ≤ 1 / 2) : |cosPoly (d ^ 2) - Real.cos (Real.pi * d)| ≤ 142 / 100000 := by
  obtain ⟨h0, h1⟩ := square_mem h
  have hx : 0 ≤ Real.pi * |d| := by positivity
  have lo := cos_alternates 5 _ hx
  have hi := cos_alternates 4 _ hx
  have hc : Real.cos (Real.pi * |d|) = Real.cos (Real.pi * d) := by
    rw [← Real.cos_abs (Real.pi * d), abs_mul, abs_of_pos Real.pi_pos]
  have hp : ∀ k, (Real.pi * |d|) ^ (2 * k) = (Real.pi / 2) ^ (2 * k) * (4 * d ^ 2) ^ k := fun k => by
    rw [pow_mul, pow_mul, ← mul_pow, mul_pow Real.pi, sq_abs]
    congr 1
    ring
  rw [hc] at lo hi
  simp only [cosSum, hp] at lo hi
  have b := bernstein h0 h1
  have q := fun n k => quarter_pow n (pow_nonneg h0 k)
  have e : cosPoly (d ^ 2) = 16770161 / 16777216 + (4 * d ^ 2) * (-10274357 / 8388608 + (4 * d ^ 2) * (7601175 / 33554432)) := by
    unfold cosPoly
    ring
  rw [e]
  generalize 4 * d ^ 2 = s at *
  generalize Real.pi / 2 = w at *
  norm_num [Finset.sum_range_succ, Nat.factorial] at lo hi
  have q1 := q 2 1
  have q2 := q 4 2
  have q3 := q 6 3
  have q4 := q 8 4
  have q5 := q 10 5
  norm_num at q1 q2 q3 q4 q5
  rw [abs_le]
  constructor
  · linarith [b 0 6, b 1 5, b 2 4, b 3 3, b 4 2, b 5 1, b 6 0]
  · linarith [b 0 6, b 1 5, b 2 4, b 3 3, b 4 2, b 5 1, b 6 0]

/-- The sine's polynomial for a phase that is not negative. -/
theorem sinPoly_close_of_nonneg {d : ℝ} (hd : 0 ≤ d) (h : d ≤ 1 / 2) :
    |d * sinPoly (d ^ 2) - Real.sin (Real.pi * d)| ≤ 142 / 100000 := by
  obtain ⟨h0, h1⟩ := square_mem (d := d) (by rwa [abs_of_nonneg hd])
  have hx : 0 ≤ Real.pi * d := by positivity
  have lo := sin_alternates 3 _ hx
  have hi := sin_alternates 4 _ hx
  have hp : ∀ k, (Real.pi * d) ^ (2 * k + 1) = d * (2 * ((Real.pi / 2) ^ (2 * k + 1) * (4 * d ^ 2) ^ k)) := fun k => by
    rw [pow_succ, pow_succ (Real.pi / 2), pow_mul, pow_mul,
      show (Real.pi * d) ^ 2 = (Real.pi / 2) ^ 2 * (4 * d ^ 2) by ring, mul_pow]
    ring
  simp only [sinSum, hp] at lo hi
  have b := bernstein h0 h1
  have q := fun n k => quarter_pow n (pow_nonneg h0 k)
  have e : sinPoly (d ^ 2) = 6586891 / 2097152 + (4 * d ^ 2) * (-5391441 / 4194304 + (4 * d ^ 2) * (9721837 / 67108864)) := by
    unfold sinPoly
    ring
  rw [e]
  generalize 4 * d ^ 2 = s at *
  generalize Real.pi / 2 = w at *
  norm_num [Finset.sum_range_succ, Nat.factorial] at lo hi
  have q0 := q 1 0
  have q1 := q 3 1
  have q2 := q 5 2
  have q3 := q 7 3
  have q4 := q 9 4
  norm_num at q0 q1 q2 q3 q4
  have l : 0 ≤ 284 / 100000 + (2 * w - 2 * (w ^ 3 * s) / 6 + 2 * (w ^ 5 * s ^ 2) / 120 - 2 * (w ^ 7 * s ^ 3) / 5040)
      - (6586891 / 2097152 + s * (-5391441 / 4194304 + s * (9721837 / 67108864))) := by
    linarith [b 0 4, b 1 3, b 2 2, b 3 1, b 4 0]
  have u : 0 ≤ 284 / 100000 - (2 * w - 2 * (w ^ 3 * s) / 6 + 2 * (w ^ 5 * s ^ 2) / 120 - 2 * (w ^ 7 * s ^ 3) / 5040
        + 2 * (w ^ 9 * s ^ 4) / 362880)
      + (6586891 / 2097152 + s * (-5391441 / 4194304 + s * (9721837 / 67108864))) := by
    linarith [b 0 4, b 1 3, b 2 2, b 3 1, b 4 0]
  have l' := mul_nonneg hd l
  have u' := mul_nonneg hd u
  rw [abs_le]
  constructor
  · linarith
  · linarith

/-- The sine's polynomial is within `0.00142` of the sine of half a turn times the phase. -/
theorem sinPoly_close {d : ℝ} (h : |d| ≤ 1 / 2) : |d * sinPoly (d ^ 2) - Real.sin (Real.pi * d)| ≤ 142 / 100000 := by
  obtain hd | hd := le_total 0 d
  · exact sinPoly_close_of_nonneg hd (by rwa [abs_of_nonneg hd] at h)
  · have := sinPoly_close_of_nonneg (d := -d) (by linarith) (by rwa [abs_of_nonpos hd] at h)
    rw [neg_sq, mul_neg, Real.sin_neg, neg_mul, ← abs_neg] at this
    convert this using 2
    ring

/-- The sine of an angle is no larger than the angle. -/
theorem abs_sin_le (x : ℝ) : |Real.sin x| ≤ |x| := by
  have h : ∀ y, 0 ≤ y → Real.sin y ≤ y := fun y hy => by
    have := sin_alternates 0 y hy
    simp [sinSum] at this
    exact this
  have h' : ∀ y, 0 ≤ y → |Real.sin y| ≤ y := fun y hy => by
    rw [abs_le]
    refine ⟨?_, h y hy⟩
    obtain hp | hp := le_total y Real.pi
    · linarith [Real.sin_nonneg_of_nonneg_of_le_pi hy hp]
    · linarith [Real.neg_one_le_sin y, Real.two_le_pi]
  obtain hx | hx := le_total 0 x
  · rw [abs_of_nonneg hx]
    exact h' x hx
  · have := h' (-x) (by linarith)
    rwa [Real.sin_neg, abs_neg, ← abs_of_nonpos hx] at this

/-- Two sines differ by no more than their angles. -/
theorem sin_lipschitz (x y : ℝ) : |Real.sin x - Real.sin y| ≤ |x - y| := by
  have hc := Real.abs_cos_le_one ((x + y) / 2)
  have hs := abs_sin_le ((x - y) / 2)
  rw [Real.sin_sub_sin, abs_mul, abs_mul, abs_two]
  rw [abs_div, abs_two] at hs
  nlinarith [abs_nonneg (Real.sin ((x - y) / 2))]

/-- Two cosines differ by no more than their angles. -/
theorem cos_lipschitz (x y : ℝ) : |Real.cos x - Real.cos y| ≤ |x - y| := by
  have h := sin_lipschitz (x + Real.pi / 2) (y + Real.pi / 2)
  rwa [Real.sin_add_pi_div_two, Real.sin_add_pi_div_two, add_sub_add_right_eq_sub] at h

end Cert.Emb

end
-- ==== Proof.HalfTurn.lean ====
/-
  Counting half turns: the nearest whole number, the sign bit that holds its parity, and the sine and the cosine
  after that many half turns. (Hand-written, untrusted.)
-/
module

public import proofs.«01_k».proof.Proof.Consts
public import Mathlib.Analysis.SpecialFunctions.Trigonometric.Basic
public import Mathlib.Tactic.Linarith

@[expose] public section

noncomputable section

namespace Cert.Emb

open Idealize.ShloMosaic

/-- The nearest whole number is at most a half away. -/
theorem round_close (u : ℝ) : |u - (Ideal.roundHalfEven u : ℝ)| ≤ 1 / 2 := by
  have h0 := Int.floor_le u
  have h1 := Int.lt_floor_add_one u
  unfold Ideal.roundHalfEven
  rw [abs_le]
  dsimp only
  split_ifs <;> push_cast <;> constructor <;> linarith

/-- Shifting a word's lowest bit to its sign bit makes it negative exactly when that bit is set. -/
theorem slt_shift (x : BitVec 32) :
    IntOp.cmpi .slt (IntOp.shli .vector x 31#32) 0#32 = BitVec.ofBool (x.getLsbD 0) := by
  have h : IntOp.shli .vector x 31#32 = x <<< (31#32) := if_pos (by decide)
  have h' : x <<< (31#32) = x <<< (31 : Nat) := BitVec.shiftLeft_eq' ..
  have e : (x <<< (31 : Nat)).slt 0#32 = x.getLsbD 0 := by
    rw [BitVec.slt_zero_eq_msb, BitVec.msb_shiftLeft, BitVec.getMsbD]
    simp
  rw [h, h']
  unfold IntOp.cmpi
  dsimp only
  rw [e]

/-- The lowest bit of a whole number's word is the number's parity. -/
theorem ofInt_lowest (k : ℤ) : (BitVec.ofInt 32 k).getLsbD 0 = decide (Odd k) := by
  rw [BitVec.getLsbD, BitVec.toNat_ofInt, Nat.testBit_zero]
  congr 1
  rw [Int.odd_iff]
  apply propext
  omega

/-- A whole number in the range of a word is converted to itself. -/
theorem fptosi_int (k : ℤ) (hl : -(2 ^ 31) ≤ k) (hu : k ≤ 2 ^ 31 - 1) :
    Ideal.fptosi 32 ((k : ℝ) : EReal) = BitVec.ofInt 32 k := by
  unfold Ideal.fptosi
  congr 1
  simp only [Ideal.toIntClamped_coe, Int.floor_intCast, Int.ceil_intCast, ite_self]
  norm_num
  omega

/-- The kernel's mask: set when the number of half turns, converted to a word, is odd. -/
def mask (k : EReal) : BitVec 1 := IntOp.cmpi .slt (IntOp.shli .vector (Ideal.fptosi 32 k) 31#32) 0#32

theorem mask_int (k : ℤ) (hl : -(2 ^ 31) ≤ k) (hu : k ≤ 2 ^ 31 - 1) : mask ((k : ℝ) : EReal) = BitVec.ofBool (decide (Odd k)) := by
  rw [mask, fptosi_int k hl hu, slt_shift, ofInt_lowest]

/-- `x` with its sign turned when the number `k` of half turns is odd, as the kernel selects it. -/
def turn (k x : EReal) : EReal := Scalar.select (mask k) (Ideal.ofBits .f32 0x80000000#32 - x) x

/-- On a whole number in the range of a word the selection multiplies by `1` or `-1`. -/
theorem turn_int (k : ℤ) (hl : -(2 ^ 31) ≤ k) (hu : k ≤ 2 ^ 31 - 1) (x : ℝ) :
    turn ((k : ℝ) : EReal) x = (((-1) ^ k * x : ℝ) : EReal) := by
  rw [turn, mask_int k hl hu, ofBits_negZero]
  by_cases h : Odd k
  · rw [decide_eq_true h, h.neg_one_zpow]
    show (0 : EReal) - (x : EReal) = _
    rw [zero_sub, neg_one_mul, EReal.coe_neg]
  · rw [decide_eq_false h, (Int.not_odd_iff_even.1 h).neg_one_zpow, one_mul]
    rfl

/-- The range of a word holds the nearest whole number of a real that lies in it. -/
theorem round_range {u : ℝ} (h : |u| ≤ 2147483646) :
    -(2 ^ 31) ≤ Ideal.roundHalfEven u ∧ Ideal.roundHalfEven u ≤ 2 ^ 31 - 1 := by
  have a := abs_le.1 h
  have b := abs_le.1 (round_close u)
  constructor
  · have : ((-(2 ^ 31) : ℤ) : ℝ) ≤ Ideal.roundHalfEven u := by push_cast; linarith
    exact_mod_cast this
  · have : (Ideal.roundHalfEven u : ℝ) ≤ ((2 ^ 31 - 1 : ℤ) : ℝ) := by push_cast; linarith
    exact_mod_cast this

/-- The sine of `u` half turns is that of what rounding leaves, its sign turned once per half turn taken off. -/
theorem sin_turns (u : ℝ) (k : ℤ) : (-1) ^ k * Real.sin (Real.pi * (u - k)) = Real.sin (Real.pi * u) := by
  have h := Real.sin_sub_int_mul_pi (Real.pi * u) k
  rw [mul_sub, mul_comm Real.pi (k : ℝ), h, ← mul_assoc, ← mul_zpow]
  simp

/-- The cosine of `u` half turns likewise. -/
theorem cos_turns (u : ℝ) (k : ℤ) : (-1) ^ k * Real.cos (Real.pi * (u - k)) = Real.cos (Real.pi * u) := by
  have h := Real.cos_sub_int_mul_pi (Real.pi * u) k
  rw [mul_sub, mul_comm Real.pi (k : ℝ), h, ← mul_assoc, ← mul_zpow]
  simp

/-- A sign does not change how far two numbers lie apart. -/
theorem abs_turn_sub (k : ℤ) (x y : ℝ) : |(-1) ^ k * x - (-1) ^ k * y| = |x - y| := by
  rw [← mul_sub, abs_mul, abs_neg_one_zpow, one_mul]

end Cert.Emb

end
-- ==== Proof.Elements.lean ====
/-
  One element of the embedding over the extended reals: the frequencies, the element as each kernel computes it, and what
  it is next to the sine and the cosine of the time times the frequency. (Hand-written, untrusted.)
-/
module

public import proofs.«01_k».proof.Proof.Polynomials
public import proofs.«01_k».proof.Proof.HalfTurn

@[expose] public section

noncomputable section

namespace Cert.Emb

open Idealize.ShloMosaic

/-- The frequency of column `n`, as the programs compute it: the exponential of the column times the scale. -/
def freq (n : ℕ) : EReal :=
  Ideal.exp ((((BitVec.ofNat 32 n).toInt : ℝ) : EReal) * Ideal.ofBits .f32 0xBD94869B#32)

/-- The frequency of a column is a real number between `0` and `1`. -/
theorem freq_real {n : ℕ} (h : n < 128) : ∃ w : ℝ, 0 ≤ w ∧ w ≤ 1 ∧ freq n = w := by
  refine ⟨Real.exp (((BitVec.ofNat 32 n).toInt : ℝ) * (-9733787 / 134217728)), (Real.exp_pos _).le, ?_, ?_⟩
  · rw [Real.exp_le_one_iff]
    have : (0 : ℝ) ≤ ((BitVec.ofNat 32 n).toInt : ℝ) := by
      have : 0 ≤ (BitVec.ofNat 32 n).toInt := by
        rw [BitVec.toInt_eq_toNat_of_lt] <;> rw [BitVec.toNat_ofNat] <;> omega
      exact_mod_cast this
    linarith
  · rw [freq, ofBits_scale, ← EReal.coe_mul, Ideal.exp_coe]

/-- The number of half turns of time `t` at frequency `w`, with `q` for the reciprocal of `π`. -/
def turns (q t w : EReal) : EReal := t * (w * q)

/-- The whole number of half turns. -/
def whole (u : EReal) : EReal := Ideal.liftRound Ideal.roundHalfEven u

/-- The part of a half turn that rounding leaves. -/
def rest (u : EReal) : EReal := u - whole u

/-- The sine's element of the kernel whose polynomials are replaced by the functions they approximate. -/
def exactSin (q p t w : EReal) : EReal := turn (whole (turns q t w)) (Ideal.sin (rest (turns q t w) * p))

/-- The cosine's element of that kernel. -/
def exactCos (q p t w : EReal) : EReal := turn (whole (turns q t w)) (Ideal.cos (rest (turns q t w) * p))

/-- The kernel's sine polynomial at a part `d` of a half turn. -/
def polySin (d : EReal) : EReal :=
  d * (Ideal.ofBits .f32 0x40490416#32 + d * d * (Ideal.ofBits .f32 0xC0A488A2#32 + d * d * Ideal.ofBits .f32 0x401457ED#32))

/-- The kernel's cosine polynomial at a part `d` of a half turn. -/
def polyCos (d : EReal) : EReal :=
  Ideal.ofBits .f32 0x3F7FE471#32 + d * d * (Ideal.ofBits .f32 0xC09CC635#32 + d * d * Ideal.ofBits .f32 0x4067F82E#32)

/-- The kernel's sine element. -/
def flipSin (t w : EReal) : EReal :=
  turn (whole (turns (Ideal.ofBits .f32 0x3EA2F983#32) t w)) (polySin (rest (turns (Ideal.ofBits .f32 0x3EA2F983#32) t w)))

/-- The kernel's cosine element. -/
def flipCos (t w : EReal) : EReal :=
  turn (whole (turns (Ideal.ofBits .f32 0x3EA2F983#32) t w)) (polyCos (rest (turns (Ideal.ofBits .f32 0x3EA2F983#32) t w)))

/-- Column `j` of a row at time `t`: `f` of the time and the column's frequency in the left half, `g` in the right half. -/
def embed (f g : EReal → EReal → EReal) (t : EReal) (j : ℕ) : EReal :=
  if j < 128 then f t (freq j) else g t (freq (j - 128))

theorem turns_coe (q t w : ℝ) : turns q t w = ((t * (w * q) : ℝ) : EReal) := by
  rw [turns, ← EReal.coe_mul, ← EReal.coe_mul]

theorem whole_coe (u : ℝ) : whole u = ((Ideal.roundHalfEven u : ℝ) : EReal) := rfl

theorem rest_coe (u : ℝ) : rest u = ((u - Ideal.roundHalfEven u : ℝ) : EReal) := by
  rw [rest, whole_coe, ← EReal.coe_sub]

theorem polySin_coe (d : ℝ) : polySin d = ((d * sinPoly (d ^ 2) : ℝ) : EReal) := by
  rw [polySin, ofBits_s1, ofBits_s3, ofBits_s5]
  simp only [← EReal.coe_mul, ← EReal.coe_add]
  rw [sinPoly, pow_two]

theorem polyCos_coe (d : ℝ) : polyCos d = ((cosPoly (d ^ 2) : ℝ) : EReal) := by
  rw [polyCos, ofBits_c0, ofBits_c2, ofBits_c4]
  simp only [← EReal.coe_mul, ← EReal.coe_add]
  rw [cosPoly, pow_two]

/-- At a time whose half turns a word can count, the exact kernel's sine element is the sine of time times frequency. -/
theorem exactSin_eq {t w : ℝ} (h : |t * (w * Real.pi⁻¹)| ≤ 2147483646) :
    exactSin ((Real.pi⁻¹ : ℝ) : EReal) ((Real.pi : ℝ) : EReal) t w = ((Real.sin (t * w) : ℝ) : EReal) := by
  obtain ⟨hl, hu⟩ := round_range h
  rw [exactSin, turns_coe, rest_coe, whole_coe, ← EReal.coe_mul, Ideal.sin_coe, turn_int _ hl hu, mul_comm _ Real.pi, sin_turns]
  congr 2
  field_simp

/-- The exact kernel's cosine element is the cosine of time times frequency. -/
theorem exactCos_eq {t w : ℝ} (h : |t * (w * Real.pi⁻¹)| ≤ 2147483646) :
    exactCos ((Real.pi⁻¹ : ℝ) : EReal) ((Real.pi : ℝ) : EReal) t w = ((Real.cos (t * w) : ℝ) : EReal) := by
  obtain ⟨hl, hu⟩ := round_range h
  rw [exactCos, turns_coe, rest_coe, whole_coe, ← EReal.coe_mul, Ideal.cos_coe, turn_int _ hl hu, mul_comm _ Real.pi, cos_turns]
  congr 2
  field_simp

/-- Times up to `2 ^ 32` have few enough half turns, at frequencies up to `1`. -/
theorem counted_turns {t w : ℝ} (ht : |t| ≤ 4294967296) (hw0 : 0 ≤ w) (hw1 : w ≤ 1) :
    |t * (w * Real.pi⁻¹)| ≤ 2147483646 := by
  have hp : Real.pi⁻¹ ≤ 10 / 31 := by
    rw [show (10 / 31 : ℝ) = (31 / 10)⁻¹ by norm_num]
    exact inv_anti₀ (by norm_num) (by linarith [quarter_gt])
  have hq : 0 ≤ Real.pi⁻¹ := inv_nonneg.2 Real.pi_pos.le
  have hwq : w * Real.pi⁻¹ ≤ 1 * (10 / 31) := mul_le_mul hw1 hp hq zero_le_one
  rw [abs_mul, abs_of_nonneg (mul_nonneg hw0 hq)]
  have := mul_le_mul ht hwq (mul_nonneg hw0 hq) (by norm_num)
  linarith

/-- The half turns that the kernel counts, times `π`, are within `0.00007` of the angle, for times up to `1000`. -/
theorem angle_close {t w : ℝ} (ht : |t| ≤ 1000) (hw0 : 0 ≤ w) (hw1 : w ≤ 1) :
    |Real.pi * (t * (w * (10680707 / 33554432))) - t * w| ≤ 7 / 100000 := by
  have e : Real.pi * (t * (w * (10680707 / 33554432))) - t * w = t * (w * (Real.pi * (10680707 / 33554432) - 1)) := by ring
  have hlo := quarter_gt
  have hhi := quarter_lt
  have hc : |Real.pi * (10680707 / 33554432) - 1| ≤ 7 / 100000000 := by
    rw [abs_le]
    constructor <;> linarith
  rw [e, abs_mul, abs_mul, abs_of_nonneg hw0]
  have h1 : w * |Real.pi * (10680707 / 33554432) - 1| ≤ 1 * (7 / 100000000) :=
    mul_le_mul hw1 hc (abs_nonneg _) zero_le_one
  have h2 := mul_le_mul ht h1 (mul_nonneg hw0 (abs_nonneg _)) (by norm_num)
  linarith

/-- Times up to `1000` have few half turns. -/
theorem drawn_turns {t w : ℝ} (ht : |t| ≤ 1000) (hw0 : 0 ≤ w) (hw1 : w ≤ 1) :
    |t * (w * (10680707 / 33554432))| ≤ 2147483646 := by
  have hwq : w * (10680707 / 33554432) ≤ 1 * 1 := mul_le_mul hw1 (by norm_num) (by norm_num) zero_le_one
  have hn : 0 ≤ w * (10680707 / 33554432) := mul_nonneg hw0 (by norm_num)
  rw [abs_mul, abs_of_nonneg hn]
  have := mul_le_mul ht hwq hn (by norm_num)
  linarith

/-- For times up to `1000` the kernel's sine element is a real number within the bound of the sine. -/
theorem flipSin_close {t w : ℝ} (ht : |t| ≤ 1000) (hw0 : 0 ≤ w) (hw1 : w ≤ 1) :
    ∃ x : ℝ, flipSin t w = x ∧ |x - Real.sin (t * w)| ≤ 6442451 / 4294967296 := by
  obtain ⟨hl, hu⟩ := round_range (drawn_turns ht hw0 hw1)
  rw [flipSin, ofBits_invPi, turns_coe, rest_coe, whole_coe, polySin_coe, turn_int _ hl hu]
  refine ⟨_, rfl, ?_⟩
  have hp := sinPoly_close (round_close (t * (w * (10680707 / 33554432))))
  rw [← abs_turn_sub (Ideal.roundHalfEven (t * (w * (10680707 / 33554432)))), sin_turns] at hp
  have hs := (sin_lipschitz (Real.pi * (t * (w * (10680707 / 33554432)))) (t * w)).trans (angle_close ht hw0 hw1)
  refine (abs_sub_le _ _ _).trans ((add_le_add hp hs).trans ?_)
  norm_num

/-- For times up to `1000` the kernel's cosine element is a real number within the bound of the cosine. -/
theorem flipCos_close {t w : ℝ} (ht : |t| ≤ 1000) (hw0 : 0 ≤ w) (hw1 : w ≤ 1) :
    ∃ x : ℝ, flipCos t w = x ∧ |x - Real.cos (t * w)| ≤ 6442451 / 4294967296 := by
  obtain ⟨hl, hu⟩ := round_range (drawn_turns ht hw0 hw1)
  rw [flipCos, ofBits_invPi, turns_coe, rest_coe, whole_coe, polyCos_coe, turn_int _ hl hu]
  refine ⟨_, rfl, ?_⟩
  have hp := cosPoly_close (round_close (t * (w * (10680707 / 33554432))))
  rw [← abs_turn_sub (Ideal.roundHalfEven (t * (w * (10680707 / 33554432)))), cos_turns] at hp
  have hs := (cos_lipschitz (Real.pi * (t * (w * (10680707 / 33554432)))) (t * w)).trans (angle_close ht hw0 hw1)
  refine (abs_sub_le _ _ _).trans ((add_le_add hp hs).trans ?_)
  norm_num

end Cert.Emb

end
-- ==== Proof.ExactBlock.lean ====
/-
  One block of the kernel `exact`: what the body leaves in its output block, index by index. (Hand-written, untrusted.)
-/
module

public import proofs.«01_k».proof.Defs
public import proofs.«01_k».proof.Proof.Elements
public import proofs.«01_k».proof.Proof.Gen.ExactIdeal.Frame
public import Idealize.ShloMosaic.Lib.Pipeline.ValueKit

@[expose] public section

noncomputable section

namespace Cert.ExactIdeal.RefValue

open Cert.ExactIdeal Cert.ExactIdeal.Gen Idealize.ShloMosaic Cert.Emb

/-- The reciprocal of `π`, which the kernel's first named constant denotes. -/
abbrev q : EReal := ((Real.pi⁻¹ : ℝ) : EReal)

/-- `π`, which the kernel's second named constant denotes. -/
abbrev p : EReal := ((Real.pi : ℝ) : EReal)

theorem named_invPi : Named.named (F := Ideal) Cert.ExactIdeal.κ "inv_pi" (φ := .f32) 0x3EA2F983#32 = q :=
  IdealRules.named_const.ideal_named_scalar _ _ _ _ rfl

theorem named_pi : Named.named (F := Ideal) Cert.ExactIdeal.κ "pi" (φ := .f32) 0x40490FDB#32 = p :=
  IdealRules.named_const.ideal_named_scalar _ _ _ _ rfl

/-- The row of a block's index, in the block's column of times. -/
abbrev timeIdx (y : S8192x128.Idx) : S8192x1.Idx := fun a => match a with
  | ⟨0, _⟩ => ⟨(y 0).val, (y 0).isLt⟩
  | ⟨1, _⟩ => ⟨0, Nat.one_pos⟩

/-- The column of a block's index, in the row of frequencies. -/
abbrev freqIdx (y : S8192x128.Idx) : S1x128.Idx := fun a => match a with
  | ⟨0, _⟩ => ⟨0, Nat.one_pos⟩
  | ⟨1, _⟩ => ⟨(y 1).val, (y 1).isLt⟩

/-- The products of a column of times with a row of frequencies that are scaled by `c`: at each index the number of half
    turns of the row's time at the column's frequency, with `c` for the reciprocal of `π`. -/
theorem products_apply (c : EReal) (v : FVec Ideal S8192x1 .f32) (y : S8192x128.Idx) :
    mulf (broadcastTo S8192x128 v broadcasts_S8192x1_S8192x128)
        (broadcastTo S8192x128 (mulf (exp (mulf (sitofp .f32 (iota .tc S1x128 32 [1] iota_S1x128_d1_w32))
          (broadcast S1x128 (Scalar.ofBits (F := Ideal) .f32 0xBD94869B#32)))) (broadcast S1x128 c)) broadcasts_S1x128_S8192x128) y
      = turns c (v (timeIdx y)) (freq (y 1).val) := by
  dsimp only [mulf]
  rw [broadcastTo_apply v broadcasts_S8192x1_S8192x128 y (timeIdx y) (fun a => match a with
      | ⟨0, _⟩ => by show (y 0).val = if (8192 : Nat) = 1 then 0 else (y 0).val; rw [if_neg (by decide)]
      | ⟨1, _⟩ => by show 0 = if (1 : Nat) = 1 then 0 else (y 1).val; rw [if_pos rfl]),
    broadcastTo_apply _ broadcasts_S1x128_S8192x128 y (freqIdx y) (fun a => match a with
      | ⟨0, _⟩ => by show 0 = if (1 : Nat) = 1 then 0 else (y 0).val; rw [if_pos rfl]
      | ⟨1, _⟩ => by show (y 1).val = if (128 : Nat) = 1 then 0 else (y 1).val; rw [if_neg (by decide)])]
  dsimp only [mulf, exp, sitofp]
  rw [iota_single_apply]
  rfl

/-- The half turns of a block: the row's time times the column's frequency times the reciprocal of `π`. -/
theorem pay1_apply (v : Vec Ideal S8192x1 .f32) (y : S8192x128.Idx) :
    k0_pay1 (F := Ideal) v y = turns q (v (timeIdx y)) (freq (y 1).val) := by
  unfold k0_pay1
  rw [named_invPi, shapeCast_self]
  exact products_apply q v y

/-- The left half's payload is the sine's element. -/
theorem pay5_apply (v : Vec Ideal S8192x1 .f32) (y : S8192x128.Idx) :
    k0_pay5 (F := Ideal) v y = exactSin q p (v (timeIdx y)) (freq (y 1).val) := by
  unfold k0_pay5
  rw [named_pi, exactSin, ← pay1_apply]
  rfl

/-- The right half's payload is the cosine's element. -/
theorem pay6_apply (v : Vec Ideal S8192x1 .f32) (y : S8192x128.Idx) :
    k0_pay6 (F := Ideal) v y = exactCos q p (v (timeIdx y)) (freq (y 1).val) := by
  unfold k0_pay6
  rw [named_pi, exactCos, ← pay1_apply]
  rfl

/-- The row of an output block's index, in the block's column of times. -/
abbrev rowIdx (z : S8192x256.Idx) : S8192x1.Idx := fun a => match a with
  | ⟨0, _⟩ => ⟨(z 0).val, (z 0).isLt⟩
  | ⟨1, _⟩ => ⟨0, Nat.one_pos⟩

/-- The whole column of times is loaded. -/
theorem ld_eq (v : Vec Ideal S8192x1 .f32) : View.ld v r0_0 = v :=
  View.ld_unit_zero (funext fun a => by fin_cases a <;> rfl) _ v

/-- The body's two stores leave, at each index of the output block, the embedding of the row's time at the column. -/
theorem out_apply (v : Vec Ideal S8192x1 .f32) (z : S8192x256.Idx) :
    out0_1 (F := Ideal) v z = embed (exactSin q p) (exactCos q p) (v (rowIdx z)) (z 1).val := by
  unfold out0_1
  rw [ld_eq]
  canon_tiles x h using cover0_1 ..
  case piece0 =>
    have hr : rowIdx z = timeIdx x := Shape.idx_ext₂ h0 rfl
    rw [pay6_apply, hr, h1, embed, if_neg (by omega), Nat.add_sub_cancel_left]
  case piece1 =>
    have hr : rowIdx z = timeIdx x := Shape.idx_ext₂ h0 rfl
    rw [pay5_apply, hr, h1, embed, if_pos x1_lt]

end Cert.ExactIdeal.RefValue

end
-- ==== Proof.FlipBlock.lean ====
/-
  One block of the kernel `flip`: what the body leaves in its output block, index by index. Its blocks and its
  times and frequencies are those of the kernel `exact`, whose lemmas apply as they are. (Hand-written, untrusted.)
-/
module

public import proofs.«01_k».proof.Proof.ExactBlock
public import proofs.«01_k».proof.Proof.Gen.FlipIdeal.Frame

@[expose] public section

noncomputable section

namespace Cert.FlipIdeal.RefValue

open Cert.FlipIdeal Cert.FlipIdeal.Gen Idealize.ShloMosaic Cert.Emb
open Cert.ExactIdeal.RefValue (timeIdx rowIdx products_apply)

/-- The half turns of a block: the row's time times the column's frequency times the literal next to the reciprocal of `π`. -/
theorem pay2_apply (v : Vec Ideal S8192x1 .f32) (y : S8192x128.Idx) :
    k0_pay2 (F := Ideal) v y = turns (Ideal.ofBits .f32 0x3EA2F983#32) (v (timeIdx y)) (freq (y 1).val) := by
  unfold k0_pay2
  rw [shapeCast_self]
  exact products_apply (Ideal.ofBits .f32 0x3EA2F983#32) v y

/-- The left half's payload is the sine's element. -/
theorem pay8_apply (v : Vec Ideal S8192x1 .f32) (y : S8192x128.Idx) :
    k0_pay8 (F := Ideal) v y = flipSin (v (timeIdx y)) (freq (y 1).val) := by
  unfold k0_pay8
  rw [flipSin, polySin, ← pay2_apply]
  rfl

/-- The right half's payload is the cosine's element. -/
theorem pay1_apply (v : Vec Ideal S8192x1 .f32) (y : S8192x128.Idx) :
    k0_pay1 (F := Ideal) (k0_pay6 v) (k0_pay9 v) (Scalar.ofBits .f32 0x80000000#32) y = flipCos (v (timeIdx y)) (freq (y 1).val) := by
  unfold k0_pay1
  rw [flipCos, polyCos, ← pay2_apply]
  rfl

/-- The whole column of times is loaded. -/
theorem ld_eq (v : Vec Ideal S8192x1 .f32) : View.ld v r0_0 = v :=
  Cert.ExactIdeal.RefValue.ld_eq v

/-- The body's two stores leave, at each index of the output block, the embedding of the row's time at the column. -/
theorem out_apply (v : Vec Ideal S8192x1 .f32) (z : S8192x256.Idx) :
    out0_1 (F := Ideal) v z = embed flipSin flipCos (v (rowIdx z)) (z 1).val := by
  unfold out0_1
  rw [ld_eq]
  canon_tiles x h using cover0_1 ..
  case piece0 =>
    have hr : rowIdx z = timeIdx x := Shape.idx_ext₂ h0 rfl
    rw [pay1_apply, hr, h1, embed, if_neg (by omega), Nat.add_sub_cancel_left]
  case piece1 =>
    have hr : rowIdx z = timeIdx x := Shape.idx_ext₂ h0 rfl
    rw [pay8_apply, hr, h1, embed, if_pos x1_lt]

end Cert.FlipIdeal.RefValue

end
-- ==== Proof.ExactValue.lean ====
/-
  The whole result array of the kernel `exact`, index by index, and its run. (Hand-written, untrusted.)
-/
module

public import proofs.«01_k».proof.Proof.ExactBlock
public import proofs.«01_k».proof.Proof.Gen.ExactIdeal.Value

@[expose] public section

noncomputable section

namespace Cert.ExactIdeal.RefValue

open Cert.ExactIdeal Cert.ExactIdeal.Gen Idealize.ShloMosaic Idealize.ShloMosaic.TcCoe Idealize.SL.Sem Cert.Emb
open Idealize.ShloMosaic.Pipeline (Dat)

variable (m : (ℓ : Loc nD τ sig) → Buf (Elt Ideal) ℓ) (ρ : Dev nD → PrngReg)

/-- The position in the argument of a row of the result. -/
abbrev argIdx (i : S16384x256.Idx) : S16384.Idx := fun a => match a with
  | ⟨0, _⟩ => ⟨(i 0).val, (i 0).isLt⟩

/-- The result array: the embedding of the row's time at the index's column. -/
def result (a : FVec Ideal S16384 .f32) : FVec Ideal S16384x256 .f32 :=
  fun i => embed (exactSin q p) (exactCos q p) (a (argIdx i)) (i 1).val

/-- The column of times that the region is entered with is the argument, reshaped. -/
theorem V_main_v0 (c : Dev nD) :
    (V m c main_v0 : FVec Ideal S16384x1 .f32) = shapeCast S16384x1 (m ((c : Thread nD τ).loc main_arg0) : FVec Ideal S16384 .f32) shapeCasts_S16384_S16384x1 := by
  show StableHlo.after hostOps0 _ (Proc.devRef .tc main_v0) = _
  after_results
  rfl

/-- The argument reshaped to a column is, at an index, the argument at the index's row. -/
theorem column_apply (a : FVec Ideal S16384 .f32) (k : S16384x1.Idx) (j : S16384.Idx) (h : (j 0).val = (k 0).val) :
    shapeCast S16384x1 a shapeCasts_S16384_S16384x1 k = a j := by
  refine shapeCast_apply _ _ k j ?_
  have hk : (k 1).val < 1 := (k 1).isLt
  rw [Shape.rowMajor_val_one, Shape.rowMajor_val_two, h]
  show (k 0).val = (k 0).val * 1 + (k 1).val
  omega

/-- The column of times at an index is the argument at the index's row. -/
theorem V_main_v0_apply (c : Dev nD) (k : S16384x1.Idx) (j : S16384.Idx) (h : (j 0).val = (k 0).val) :
    (V m c main_v0 : FVec Ideal S16384x1 .f32) k = (m ((c : Thread nD τ).loc main_arg0) : FVec Ideal S16384 .f32) j := by
  rw [V_main_v0]
  exact column_apply _ k j h

/-- Where the two windows' blocks begin, and how large they are. -/
theorem idx_facts : ∀ t : Fin cfg0.N, win0_0.index t 0 * win0_0.size 0 = t.val * 8192
    ∧ win0_1.index t 0 * win0_1.size 0 = t.val * 8192 ∧ win0_1.xsize (grid0.coords t) 0 = 8192
    ∧ win0_1.index t 1 * win0_1.size 1 = 0 ∧ win0_1.xsize (grid0.coords t) 1 = 256 :=
  (by decide +kernel : ∀ t : Fin grid0.N, win0_0.index t 0 * win0_0.size 0 = t.val * 8192
    ∧ win0_1.index t 0 * win0_1.size 0 = t.val * 8192 ∧ win0_1.xsize (grid0.coords t) 0 = 8192
    ∧ win0_1.index t 1 * win0_1.size 1 = 0 ∧ win0_1.xsize (grid0.coords t) 1 = 256)

/-- The row and the column of a block's index in the result array. -/
theorem emb_row (t : Fin cfg0.N) (z : S8192x256.Idx) : (((win0_1.rect t).emb z) 0).val = t.val * 8192 + (z 0).val := by
  rw [← (idx_facts t).2.1]
  exact win0_1.rect_emb_val t z 0

theorem emb_col (t : Fin cfg0.N) (z : S8192x256.Idx) : (((win0_1.rect t).emb z) 1).val = (z 1).val := by
  have e : (((win0_1.rect t).emb z) 1).val = win0_1.index t 1 * win0_1.size 1 + (z 1).val := win0_1.rect_emb_val t z 1
  rw [e, (idx_facts t).2.2.2.1, Nat.zero_add]

/-- The time of a block's row is the argument's at the row's position in the result array. -/
theorem block_time (c : Dev nD) (t : Fin cfg0.N) (z : S8192x256.Idx) :
    iblk m c 0 t (rowIdx z) = (m ((c : Thread nD τ).loc main_arg0) : FVec Ideal S16384 .f32) (argIdx ((win0_1.rect t).emb z)) := by
  refine V_main_v0_apply m c ((win0_0.rect t).emb (rowIdx z)) _ ?_
  have e : (((win0_0.rect t).emb (rowIdx z)) 0).val = win0_0.index t 0 * win0_0.size 0 + (z 0).val := win0_0.rect_emb_val t (rowIdx z) 0
  rw [e, (idx_facts t).1]
  exact emb_row t z

/-- What point `t` writes back is block `t` of the result array. -/
theorem flushed_eq (c : Dev nD) (t : Fin cfg0.N) :
    (dats m 0 c).flushed 1 t = (win0_1.blk t).view.read (Elt Ideal) (result (m ((c : Thread nD τ).loc main_arg0))) := by
  rw [Value.flushed1]
  funext z
  show out0_1 (iblk m c 0 t) z = result (m ((c : Thread nD τ).loc main_arg0)) ((win0_1.rect t).emb z)
  rw [out_apply, block_time, result, emb_col]

/-- An index of the result is in point `t`'s block when its row is. -/
theorem mem_blk (t : Fin cfg0.N) (i : S16384x256.Idx) :
    i ∈ ((cfg0.win 1).blk t).view.set ↔ t.val * 8192 ≤ (i 0 : Nat) ∧ (i 0 : Nat) < t.val * 8192 + 8192 := by
  show i ∈ ((View.whole main_v1).slice (win0_1.rect t)).set ↔ _
  rw [View.set_slice_whole, Rect.mem_set_unit]
  have hi : (i 1 : Nat) < 256 := (i 1).isLt
  obtain ⟨-, e0, s0, e1, s1⟩ := idx_facts t
  refine ⟨fun h => ?_, fun h a => ?_⟩
  · have : win0_1.index t 0 * win0_1.size 0 ≤ (i 0 : Nat) ∧ (i 0 : Nat) < win0_1.index t 0 * win0_1.size 0 + win0_1.xsize (grid0.coords t) 0 := h 0
    rwa [e0, s0] at this
  · match a with
    | ⟨0, _⟩ =>
      show win0_1.index t 0 * win0_1.size 0 ≤ (i 0 : Nat) ∧ (i 0 : Nat) < win0_1.index t 0 * win0_1.size 0 + win0_1.xsize (grid0.coords t) 0
      rwa [e0, s0]
    | ⟨1, _⟩ =>
      show win0_1.index t 1 * win0_1.size 1 ≤ (i 1 : Nat) ∧ (i 1 : Nat) < win0_1.index t 1 * win0_1.size 1 + win0_1.xsize (grid0.coords t) 1
      rw [e1, s1]
      omega

/-- The two points' blocks fill the result. -/
theorem cover (i : S16384x256.Idx) : ∃ t : Fin cfg0.N, (cfg0.win 1).flush t = true ∧ i ∈ ((cfg0.win 1).blk t).view.set := by
  have h0 : (i 0 : Nat) < 16384 := (i 0).isLt
  have hN : cfg0.N = 2 := N_0
  refine ⟨⟨(i 0).val / 8192, by omega⟩, flush0_1 _, ?_⟩
  rw [mem_blk]
  dsimp only
  omega

/-- So the result array ends holding the embedding of the argument, -/
theorem final (c : Dev nD) : (dats m 0 c).arrAt 1 cfg0.N = result (m ((c : Thread nD τ).loc main_arg0)) :=
  (dats m 0 c).arrAt_eq_of_cover 1 (result (m ((c : Thread nD τ).loc main_arg0))) (fun t _ => flushed_eq m c t) cover

/-- and the run ends with the result at the embedding of the argument, and the argument unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.ExactIdeal.RefValue

end
-- ==== Proof.FlipValue.lean ====
/-
  The whole result array of the kernel `flip`, index by index, and its run. Its windows are
  those of the kernel `exact`. (Hand-written, untrusted.)
-/
module

public import proofs.«01_k».proof.Proof.FlipBlock
public import proofs.«01_k».proof.Proof.ExactValue
public import proofs.«01_k».proof.Proof.Gen.FlipIdeal.Value

@[expose] public section

noncomputable section

namespace Cert.FlipIdeal.RefValue

open Cert.FlipIdeal Cert.FlipIdeal.Gen Idealize.ShloMosaic Idealize.ShloMosaic.TcCoe Idealize.SL.Sem Cert.Emb
open Cert.ExactIdeal.RefValue (argIdx rowIdx)
open Idealize.ShloMosaic.Pipeline (Dat)

variable (m : (ℓ : Loc nD τ sig) → Buf (Elt Ideal) ℓ) (ρ : Dev nD → PrngReg)

/-- The result array: the embedding of the row's time at the index's column. -/
def result (a : FVec Ideal S16384 .f32) : FVec Ideal S16384x256 .f32 :=
  fun i => embed flipSin flipCos (a (argIdx i)) (i 1).val

/-- The column of a block's index in the result array. -/
theorem emb_col (t : Fin cfg0.N) (z : S8192x256.Idx) : (((win0_1.rect t).emb z) 1).val = (z 1).val :=
  Cert.ExactIdeal.RefValue.emb_col t z

/-- The time of a block's row is the argument's at the row's position in the result array. -/
theorem block_time (c : Dev nD) (t : Fin cfg0.N) (z : S8192x256.Idx) :
    iblk m c 0 t (rowIdx z) = (m ((c : Thread nD τ).loc main_arg0) : FVec Ideal S16384 .f32) (argIdx ((win0_1.rect t).emb z)) :=
  Cert.ExactIdeal.RefValue.block_time m c t z

/-- What point `t` writes back is block `t` of the result array. -/
theorem flushed_eq (c : Dev nD) (t : Fin cfg0.N) :
    (dats m 0 c).flushed 1 t = (win0_1.blk t).view.read (Elt Ideal) (result (m ((c : Thread nD τ).loc main_arg0))) := by
  rw [Value.flushed1]
  funext z
  show out0_1 (iblk m c 0 t) z = result (m ((c : Thread nD τ).loc main_arg0)) ((win0_1.rect t).emb z)
  rw [out_apply, block_time, result, emb_col]

/-- The two points' blocks fill the result. -/
theorem cover (i : S16384x256.Idx) : ∃ t : Fin cfg0.N, (cfg0.win 1).flush t = true ∧ i ∈ ((cfg0.win 1).blk t).view.set :=
  Cert.ExactIdeal.RefValue.cover i

/-- So the result array ends holding the embedding of the argument, -/
theorem final (c : Dev nD) : (dats m 0 c).arrAt 1 cfg0.N = result (m ((c : Thread nD τ).loc main_arg0)) :=
  (dats m 0 c).arrAt_eq_of_cover 1 (result (m ((c : Thread nD τ).loc main_arg0))) (fun t _ => flushed_eq m c t) cover

/-- and the run ends with the result at the embedding of the argument, and the argument unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.FlipIdeal.RefValue

end
-- ==== Proof.ReferenceValue.lean ====
/-
  The reference, index by index. (Hand-written, untrusted.)
-/
module

public import proofs.«01_k».proof.Proof.Elements
public import proofs.«01_k».proof.Proof.Gen.ReferenceIdeal.Read

@[expose] public section

noncomputable section

namespace Cert.Emb

open Idealize.ShloMosaic Cert.ReferenceIdeal Cert.ReferenceIdeal.Read

/-- The reference's sine element. -/
def refSin (t w : EReal) : EReal := Ideal.sin (t * w)

/-- The reference's cosine element. -/
def refCos (t w : EReal) : EReal := Ideal.cos (t * w)

theorem refSin_coe (t w : ℝ) : refSin t w = ((Real.sin (t * w) : ℝ) : EReal) := by
  rw [refSin, ← EReal.coe_mul, Ideal.sin_coe]

theorem refCos_coe (t w : ℝ) : refCos t w = ((Real.cos (t * w) : ℝ) : EReal) := by
  rw [refCos, ← EReal.coe_mul, Ideal.cos_coe]

/-- The position in the argument of a row of the angles. -/
abbrev angleRow (k : S16384x128.Idx) : S16384.Idx := fun a => match a with
  | ⟨0, _⟩ => ⟨(k 0).val, (k 0).isLt⟩

/-- The reference's frequencies. -/
theorem reference_freq (n : S128.Idx) : val_main_v3 (F := Ideal) n = freq (n 0).val := by
  rw [val_main_v3_apply, val_main_v2_apply, val_main_v1_apply, val_main_cst_apply]
  rfl

/-- The reference's angles: the row's time times the column's frequency. -/
theorem reference_angle (a : FVec Ideal S16384 .f32) (k : S16384x128.Idx) :
    val_main_v8 (F := Ideal) a k = a (angleRow k) * freq (k 1).val := by
  rw [val_main_v8_apply, val_main_v6_apply, val_main_v4_apply, val_main_v7_apply, val_main_v5_apply, reference_freq]
  rfl

/-- The position in the argument of a row of the result. -/
abbrev resultRow (i : S16384x256.Idx) : S16384.Idx := fun a => match a with
  | ⟨0, _⟩ => ⟨(i 0).val, (i 0).isLt⟩

/-- An index of the result in its left half, as an index of the sines. -/
abbrev leftIdx (i : S16384x256.Idx) (h : (i 1).val < 128) : S16384x128.Idx := fun a => match a with
  | ⟨0, _⟩ => ⟨(i 0).val, (i 0).isLt⟩
  | ⟨1, _⟩ => ⟨(i 1).val, h⟩

/-- An index of the result in its right half, as an index of the cosines. -/
abbrev rightIdx (i : S16384x256.Idx) (h : (i 1).val - 128 < 128) : S16384x128.Idx := fun a => match a with
  | ⟨0, _⟩ => ⟨(i 0).val, (i 0).isLt⟩
  | ⟨1, _⟩ => ⟨(i 1).val - 128, h⟩

/-- The reference's result is the embedding of the row's time, with the sine in the left and the cosine in the right half. -/
theorem reference_apply (a : FVec Ideal S16384 .f32) (i : S16384x256.Idx) :
    val_main_v11 (F := Ideal) a i = embed refSin refCos (a (resultRow i)) (i 1).val := by
  have hi : (i 1).val < 256 := (i 1).isLt
  unfold val_main_v11
  by_cases h : (i 1).val < 128
  · rw [embed, if_pos h]
    refine (concatenate_pair_apply_left (t := S16384x256) (s₁ := S16384x128) (s₂ := S16384x128) 1 _ _ _ i rfl (leftIdx i h)
      (fun b => match b with | ⟨0, _⟩ => rfl | ⟨1, _⟩ => rfl)).trans ?_
    rw [val_main_v9_apply, reference_angle]
    rfl
  · rw [embed, if_neg h]
    refine (concatenate_pair_apply_right (t := S16384x256) (s₁ := S16384x128) (s₂ := S16384x128) 1 _ _ _ i rfl rfl
      (rightIdx i (by omega)) (fun b hb => match b with | ⟨0, _⟩ => rfl | ⟨1, _⟩ => absurd rfl hb) ?_).trans ?_
    · show (i 1).val - 128 + 128 = (i 1).val
      omega
    · rw [val_main_v10_apply, reference_angle]
      rfl

/-- Two embeddings of a real time are related at every column when their elements are related at every frequency
    between `0` and `1`. -/
theorem embed_rel {P : EReal → EReal → Prop} {f g f' g' : EReal → EReal → EReal} {t : EReal} {j : ℕ} (hj : j < 256)
    (hf : ∀ w : ℝ, 0 ≤ w → w ≤ 1 → P (f t w) (f' t w)) (hg : ∀ w : ℝ, 0 ≤ w → w ≤ 1 → P (g t w) (g' t w)) :
    P (embed f g t j) (embed f' g' t j) := by
  unfold embed
  by_cases h : j < 128
  · obtain ⟨w, h0, h1, e⟩ := freq_real h
    rw [if_pos h, if_pos h, e]
    exact hf w h0 h1
  · obtain ⟨w, h0, h1, e⟩ := freq_real (show j - 128 < 128 by omega)
    rw [if_neg h, if_neg h, e]
    exact hg w h0 h1

end Cert.Emb

end
-- ==== Proof.FlipClaim.lean ====
/-
  The bound: the kernel's own polynomials stay close to the reference. (Hand-written, untrusted.)
-/
module

public import proofs.«01_k».proof.Proof.Gen.Post_near
public import proofs.«01_k».proof.Proof.Bounds
public import proofs.«01_k».proof.Proof.FlipValue
public import proofs.«01_k».proof.Proof.ReferenceValue

@[expose] public section

noncomputable section

namespace Cert.Emb

open Cert.FlipIdeal.RefValue Idealize.ShloMosaic Idealize.ShloMosaic.TcCoe Idealize.SL.Sem

/-- The predicate `near` at an index compares the distance of the two results there with the bound. -/
theorem near_apply (a : FVec Ideal Cert.ReferenceIdeal.S16384 .f32) (b : FVec Ideal Cert.ReferenceIdeal.S16384x256 .f32)
    (i : Cert.ReferenceIdeal.S16384x256.Idx) :
    Cert.Post_near.fn (F := Ideal) a b i
      = Ideal.cmp .ole (max (b i - Cert.ReferenceIdeal.Read.val_main_v11 (F := Ideal) a i)
          (-(b i - Cert.ReferenceIdeal.Read.val_main_v11 (F := Ideal) a i))) (Ideal.ofBits .f32 0x3AC49BA6#32) := rfl

/-- At times that are real numbers between `-1000` and `1000`, the kernel's result array is within the bound of the
    reference's at every index. -/
theorem flip_near_reference (a : FVec Ideal Cert.ReferenceIdeal.S16384 .f32) (h : Cert.Pre_drawn.fn (F := Ideal) a = fun _ => 1#1) :
    Cert.Post_near.fn (F := Ideal) a (result a) = fun _ => 1#1 := by
  funext i
  rw [near_apply, reference_apply, ofBits_eps]
  obtain ⟨t, ht, e⟩ := drawn_real h (resultRow i)
  show Ideal.cmp .ole (max (embed flipSin flipCos (a (resultRow i)) (i 1).val - _) (-(embed flipSin flipCos (a (resultRow i)) (i 1).val - _))) _ = _
  rw [e]
  refine embed_rel (P := fun x y => Ideal.cmp .ole (max (x - y) (-(x - y))) ((6442451 / 4294967296 : ℝ) : EReal) = 1#1) (i 1).isLt
    (fun w h0 h1 => ?_) (fun w h0 h1 => ?_)
  · obtain ⟨x, ex, hx⟩ := flipSin_close ht h0 h1
    rw [ex, refSin_coe]
    exact cmp_close hx
  · obtain ⟨x, ex, hx⟩ := flipCos_close ht h0 h1
    rw [ex, refCos_coe]
    exact cmp_close hx

/-- From any memory with every time between `-1000` and `1000`, the kernel runs, its argument ends unchanged, and every
    index of its result is within the bound of the reference's. -/
theorem holds : Cert.holds_FlipIdeal_near_pre_drawn := by
  intro m ρ hpre
  refine (θ_run Cert.FlipIdeal.defs _ _).mono (fun _ h c => ⟨(h c).2, ?_⟩) (Cert.FlipIdeal.RefValue.run m ρ)
  rw [(h c).1]
  exact flip_near_reference _ (hpre c)

end Cert.Emb

end
-- ==== Proof.ExactClaim.lean ====
/-
  The equation: the kernel with the sine and the cosine in place of their polynomials computes the reference.
  (Hand-written, untrusted.)
-/
module

public import proofs.«01_k».proof.Proof.Bounds
public import proofs.«01_k».proof.Proof.ExactValue
public import proofs.«01_k».proof.Proof.ReferenceValue

@[expose] public section

noncomputable section

namespace Cert.Emb

open Cert.ExactIdeal.RefValue Idealize.ShloMosaic Idealize.ShloMosaic.TcCoe Idealize.SL.Sem

/-- At times that are real numbers between `-2 ^ 32` and `2 ^ 32`, the kernel's result array is the reference's. -/
theorem exact_eq_reference (a : FVec Ideal Cert.ReferenceIdeal.S16384 .f32) (h : Cert.Pre_counted.fn (F := Ideal) a = fun _ => 1#1) :
    result a = Cert.ReferenceIdeal.Read.val_main_v11 (F := Ideal) a := by
  funext i
  rw [reference_apply]
  obtain ⟨t, ht, e⟩ := counted_real h (resultRow i)
  show embed (exactSin q p) (exactCos q p) (a (resultRow i)) (i 1).val = _
  rw [e]
  refine embed_rel (P := Eq) (i 1).isLt (fun w h0 h1 => ?_) (fun w h0 h1 => ?_)
  · rw [exactSin_eq (counted_turns ht h0 h1), refSin_coe]
  · rw [exactCos_eq (counted_turns ht h0 h1), refCos_coe]

/-- From memories that agree on the argument, with every time between `-2 ^ 32` and `2 ^ 32`, the kernel and the
    reference both run and end with the same result, every index of it, and the argument unchanged. -/
theorem algebraic : Cert.algebraic_ExactIdeal_ReferenceIdeal_pre_counted := by
  intro m ρ m' ρ' hpre hagree
  refine ⟨_, Cert.ExactIdeal.RefValue.run m ρ, ?_⟩
  refine (θ_run Cert.ReferenceIdeal.defs _ _).mono (fun _ h c => ⟨(h c).1.trans ?_, (h c).2⟩) (Cert.ReferenceIdeal.Value.run (F := Ideal) m' ρ')
  rw [hagree c]
  exact (exact_eq_reference _ (hpre c)).symm

end Cert.Emb

end
-- ==== Proof.PlainBlock.lean ====
/-
  One block of the kernel `plain`: what the body leaves in its output block, index by index. (Hand-written, untrusted.)
-/
module

public import proofs.«01_k».proof.Proof.ReferenceValue
public import proofs.«01_k».proof.Proof.Gen.PlainIdeal.Frame
public import Idealize.ShloMosaic.Lib.Pipeline.ValueKit

@[expose] public section

noncomputable section

namespace Cert.PlainIdeal.RefValue

open Cert.PlainIdeal Cert.PlainIdeal.Gen Idealize.ShloMosaic Cert.Emb

/-- The row of a block's index, in the block's column of times. -/
abbrev timeIdx (y : S1024x128.Idx) : S1024x1.Idx := fun a => match a with
  | ⟨0, _⟩ => ⟨(y 0).val, (y 0).isLt⟩
  | ⟨1, _⟩ => ⟨0, Nat.one_pos⟩

/-- The column of a block's index, in the row of frequencies. -/
abbrev freqIdx (y : S1024x128.Idx) : S1x128.Idx := fun a => match a with
  | ⟨0, _⟩ => ⟨0, Nat.one_pos⟩
  | ⟨1, _⟩ => ⟨(y 1).val, (y 1).isLt⟩

/-- The angles of a block: the row's time times the column's frequency. -/
theorem pay1_apply (v : Vec Ideal S1024x1 .f32) (y : S1024x128.Idx) :
    k0_pay1 (F := Ideal) v y = v (timeIdx y) * freq (y 1).val := by
  unfold k0_pay1
  rw [shapeCast_self]
  dsimp only [mulf]
  rw [broadcastTo_apply v broadcasts_S1024x1_S1024x128 y (timeIdx y) (fun a => match a with
      | ⟨0, _⟩ => by show (y 0).val = if (1024 : Nat) = 1 then 0 else (y 0).val; rw [if_neg (by decide)]
      | ⟨1, _⟩ => by show 0 = if (1 : Nat) = 1 then 0 else (y 1).val; rw [if_pos rfl]),
    broadcastTo_apply _ broadcasts_S1x128_S1024x128 y (freqIdx y) (fun a => match a with
      | ⟨0, _⟩ => by show 0 = if (1 : Nat) = 1 then 0 else (y 0).val; rw [if_pos rfl]
      | ⟨1, _⟩ => by show (y 1).val = if (128 : Nat) = 1 then 0 else (y 1).val; rw [if_neg (by decide)])]
  dsimp only [mulf, exp, sitofp]
  rw [iota_single_apply]
  rfl

/-- The left half's payload is the reference's sine element. -/
theorem pay2_apply (v : Vec Ideal S1024x1 .f32) (y : S1024x128.Idx) :
    k0_pay2 (F := Ideal) v y = refSin (v (timeIdx y)) (freq (y 1).val) := by
  unfold k0_pay2
  rw [refSin, ← pay1_apply]
  rfl

/-- The right half's payload is the reference's cosine element. -/
theorem pay3_apply (v : Vec Ideal S1024x1 .f32) (y : S1024x128.Idx) :
    k0_pay3 (F := Ideal) v y = refCos (v (timeIdx y)) (freq (y 1).val) := by
  unfold k0_pay3
  rw [refCos, ← pay1_apply]
  rfl

/-- The row of an output block's index, in the block's column of times. -/
abbrev rowIdx (z : S1024x256.Idx) : S1024x1.Idx := fun a => match a with
  | ⟨0, _⟩ => ⟨(z 0).val, (z 0).isLt⟩
  | ⟨1, _⟩ => ⟨0, Nat.one_pos⟩

/-- The whole column of times is loaded. -/
theorem ld_eq (v : Vec Ideal S1024x1 .f32) : View.ld v r0_0 = v :=
  View.ld_unit_zero (funext fun a => by fin_cases a <;> rfl) _ v

/-- The body's two stores leave, at each index of the output block, the embedding of the row's time at the column. -/
theorem out_apply (v : Vec Ideal S1024x1 .f32) (z : S1024x256.Idx) :
    out0_1 (F := Ideal) v z = embed refSin refCos (v (rowIdx z)) (z 1).val := by
  unfold out0_1
  rw [ld_eq]
  canon_tiles x h using cover0_1 ..
  case piece0 =>
    have hr : rowIdx z = timeIdx x := Shape.idx_ext₂ h0 rfl
    rw [pay3_apply, hr, h1, embed, if_neg (by omega), Nat.add_sub_cancel_left]
  case piece1 =>
    have hr : rowIdx z = timeIdx x := Shape.idx_ext₂ h0 rfl
    rw [pay2_apply, hr, h1, embed, if_pos x1_lt]

end Cert.PlainIdeal.RefValue

end
-- ==== Proof.PlainValue.lean ====
/-
  The whole result array of the kernel `plain`, index by index, and its run. (Hand-written, untrusted.)
-/
module

public import proofs.«01_k».proof.Proof.PlainBlock
public import proofs.«01_k».proof.Proof.ExactValue
public import proofs.«01_k».proof.Proof.Gen.PlainIdeal.Value

@[expose] public section

noncomputable section

namespace Cert.PlainIdeal.RefValue

open Cert.PlainIdeal Cert.PlainIdeal.Gen Idealize.ShloMosaic Idealize.ShloMosaic.TcCoe Idealize.SL.Sem Cert.Emb
open Idealize.ShloMosaic.Pipeline (Dat)

variable (m : (ℓ : Loc nD τ sig) → Buf (Elt Ideal) ℓ) (ρ : Dev nD → PrngReg)

/-- The result array: the embedding of the row's time at the index's column. -/
def result (a : FVec Ideal S16384 .f32) : FVec Ideal S16384x256 .f32 :=
  fun i => embed refSin refCos (a (resultRow i)) (i 1).val

/-- The column of times that the region is entered with is the argument, reshaped. -/
theorem V_main_v0 (c : Dev nD) :
    (V m c main_v0 : FVec Ideal S16384x1 .f32) = shapeCast S16384x1 (m ((c : Thread nD τ).loc main_arg0) : FVec Ideal S16384 .f32) shapeCasts_S16384_S16384x1 := by
  show StableHlo.after hostOps0 _ (Proc.devRef .tc main_v0) = _
  after_results
  rfl

/-- The column of times at an index is the argument at the index's row. -/
theorem V_main_v0_apply (c : Dev nD) (k : S16384x1.Idx) (j : S16384.Idx) (h : (j 0).val = (k 0).val) :
    (V m c main_v0 : FVec Ideal S16384x1 .f32) k = (m ((c : Thread nD τ).loc main_arg0) : FVec Ideal S16384 .f32) j := by
  rw [V_main_v0]
  exact Cert.ExactIdeal.RefValue.column_apply _ k j h

/-- Where the two windows' blocks begin, and how large they are. -/
theorem idx_facts : ∀ t : Fin cfg0.N, win0_0.index t 0 * win0_0.size 0 = t.val * 1024
    ∧ win0_1.index t 0 * win0_1.size 0 = t.val * 1024 ∧ win0_1.xsize (grid0.coords t) 0 = 1024
    ∧ win0_1.index t 1 * win0_1.size 1 = 0 ∧ win0_1.xsize (grid0.coords t) 1 = 256 :=
  (by decide +kernel : ∀ t : Fin grid0.N, win0_0.index t 0 * win0_0.size 0 = t.val * 1024
    ∧ win0_1.index t 0 * win0_1.size 0 = t.val * 1024 ∧ win0_1.xsize (grid0.coords t) 0 = 1024
    ∧ win0_1.index t 1 * win0_1.size 1 = 0 ∧ win0_1.xsize (grid0.coords t) 1 = 256)

/-- The row and the column of a block's index in the result array. -/
theorem emb_row (t : Fin cfg0.N) (z : S1024x256.Idx) : (((win0_1.rect t).emb z) 0).val = t.val * 1024 + (z 0).val := by
  rw [← (idx_facts t).2.1]
  exact win0_1.rect_emb_val t z 0

theorem emb_col (t : Fin cfg0.N) (z : S1024x256.Idx) : (((win0_1.rect t).emb z) 1).val = (z 1).val := by
  have e : (((win0_1.rect t).emb z) 1).val = win0_1.index t 1 * win0_1.size 1 + (z 1).val := win0_1.rect_emb_val t z 1
  rw [e, (idx_facts t).2.2.2.1, Nat.zero_add]

/-- The time of a block's row is the argument's at the row's position in the result array. -/
theorem block_time (c : Dev nD) (t : Fin cfg0.N) (z : S1024x256.Idx) :
    iblk m c 0 t (rowIdx z) = (m ((c : Thread nD τ).loc main_arg0) : FVec Ideal S16384 .f32) (resultRow ((win0_1.rect t).emb z)) := by
  refine V_main_v0_apply m c ((win0_0.rect t).emb (rowIdx z)) _ ?_
  have e : (((win0_0.rect t).emb (rowIdx z)) 0).val = win0_0.index t 0 * win0_0.size 0 + (z 0).val := win0_0.rect_emb_val t (rowIdx z) 0
  rw [e, (idx_facts t).1]
  exact emb_row t z

/-- What point `t` writes back is block `t` of the result array. -/
theorem flushed_eq (c : Dev nD) (t : Fin cfg0.N) :
    (dats m 0 c).flushed 1 t = (win0_1.blk t).view.read (Elt Ideal) (result (m ((c : Thread nD τ).loc main_arg0))) := by
  rw [Value.flushed1]
  funext z
  show out0_1 (iblk m c 0 t) z = result (m ((c : Thread nD τ).loc main_arg0)) ((win0_1.rect t).emb z)
  rw [out_apply, block_time, result, emb_col]

/-- An index of the result is in point `t`'s block when its row is. -/
theorem mem_blk (t : Fin cfg0.N) (i : S16384x256.Idx) :
    i ∈ ((cfg0.win 1).blk t).view.set ↔ t.val * 1024 ≤ (i 0 : Nat) ∧ (i 0 : Nat) < t.val * 1024 + 1024 := by
  show i ∈ ((View.whole main_v1).slice (win0_1.rect t)).set ↔ _
  rw [View.set_slice_whole, Rect.mem_set_unit]
  have hi : (i 1 : Nat) < 256 := (i 1).isLt
  obtain ⟨-, e0, s0, e1, s1⟩ := idx_facts t
  refine ⟨fun h => ?_, fun h a => ?_⟩
  · have : win0_1.index t 0 * win0_1.size 0 ≤ (i 0 : Nat) ∧ (i 0 : Nat) < win0_1.index t 0 * win0_1.size 0 + win0_1.xsize (grid0.coords t) 0 := h 0
    rwa [e0, s0] at this
  · match a with
    | ⟨0, _⟩ =>
      show win0_1.index t 0 * win0_1.size 0 ≤ (i 0 : Nat) ∧ (i 0 : Nat) < win0_1.index t 0 * win0_1.size 0 + win0_1.xsize (grid0.coords t) 0
      rwa [e0, s0]
    | ⟨1, _⟩ =>
      show win0_1.index t 1 * win0_1.size 1 ≤ (i 1 : Nat) ∧ (i 1 : Nat) < win0_1.index t 1 * win0_1.size 1 + win0_1.xsize (grid0.coords t) 1
      rw [e1, s1]
      omega

/-- The sixteen points' blocks fill the result. -/
theorem cover (i : S16384x256.Idx) : ∃ t : Fin cfg0.N, (cfg0.win 1).flush t = true ∧ i ∈ ((cfg0.win 1).blk t).view.set := by
  have h0 : (i 0 : Nat) < 16384 := (i 0).isLt
  have hN : cfg0.N = 16 := N_0
  refine ⟨⟨(i 0).val / 1024, by omega⟩, flush0_1 _, ?_⟩
  rw [mem_blk]
  dsimp only
  omega

/-- So the result array ends holding the embedding of the argument, -/
theorem final (c : Dev nD) : (dats m 0 c).arrAt 1 cfg0.N = result (m ((c : Thread nD τ).loc main_arg0)) :=
  (dats m 0 c).arrAt_eq_of_cover 1 (result (m ((c : Thread nD τ).loc main_arg0))) (fun t _ => flushed_eq m c t) cover

/-- and the run ends with the result at the embedding of the argument, and the argument unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.PlainIdeal.RefValue

end
-- ==== Proof.PlainClaim.lean ====
/-
  The equation: the kernel without range reduction computes the reference, at every argument. (Hand-written, untrusted.)
-/
module

public import proofs.«01_k».proof.Defs
public import proofs.«01_k».proof.Proof.PlainValue
public import proofs.«01_k».proof.Proof.Gen.ReferenceIdeal.Run

@[expose] public section

noncomputable section

namespace Cert.Emb

open Cert.PlainIdeal.RefValue Idealize.ShloMosaic Idealize.ShloMosaic.TcCoe Idealize.SL.Sem

/-- The kernel's result array is the reference's, whatever the times. -/
theorem plain_eq_reference (a : FVec Ideal Cert.ReferenceIdeal.S16384 .f32) :
    result a = Cert.ReferenceIdeal.Read.val_main_v11 (F := Ideal) a := by
  funext i
  rw [reference_apply]
  rfl

/-- From memories that agree on the argument, the kernel and the reference both run and end with the same result, every
    index of it, and the argument unchanged. -/
theorem plain_algebraic : Cert.algebraic_PlainIdeal_ReferenceIdeal := by
  intro m ρ m' ρ' _ hagree
  refine ⟨_, Cert.PlainIdeal.RefValue.run m ρ, ?_⟩
  refine (θ_run Cert.ReferenceIdeal.defs _ _).mono (fun _ h c => ⟨(h c).1.trans ?_, (h c).2⟩) (Cert.ReferenceIdeal.Value.run (F := Ideal) m' ρ')
  rw [hagree c]
  exact (plain_eq_reference _).symm

end Cert.Emb

end
-- ==== Proof.lean ====
/-
  The claims about the sinusoidal time embedding, assembled: the frames of the programs, what the idealizations
  preserve, the bound on the kernel's own polynomials, and the equations with the reference. (Hand-written, untrusted.)
-/
module

public import proofs.«01_k».proof.Defs
public import proofs.«01_k».proof.Proof.Gen.Kernel.Frame
public import proofs.«01_k».proof.Proof.Gen.Flip.Frame
public import proofs.«01_k».proof.Proof.Gen.Exact.Frame
public import proofs.«01_k».proof.Proof.Gen.Plain.Frame
public import proofs.«01_k».proof.Proof.FlipClaim
public import proofs.«01_k».proof.Proof.ExactClaim
public import proofs.«01_k».proof.Proof.PlainClaim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its argument ends unchanged, and every semaphore reads zero: it has none. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named literals denote the reciprocal of `π` and `π`. -/
theorem named : Cert.preserves_Exact_ExactIdeal :=
  ⟨IdealRules.named_const.statement Cert.ExactIdeal.κ "inv_pi" .f32 0x3EA2F983#32 ((Real.pi⁻¹ : ℝ) : EReal) rfl,
    IdealRules.named_const.statement Cert.ExactIdeal.κ "pi" .f32 0x40490FDB#32 ((Real.pi : ℝ) : EReal) rfl⟩

/-- All claims of the certificate. -/
theorem claim : Cert.Claim :=
  ⟨Cert.Kernel.Gen.facts, Cert.Flip.Gen.facts, Cert.FlipIdeal.Gen.facts, Cert.Exact.Gen.facts, Cert.ExactIdeal.Gen.facts,
    Cert.Plain.Gen.facts, Cert.PlainIdeal.Gen.facts, Cert.ReferenceIdeal.Gen.facts, Cert.Pre_drawn.Gen.facts, Cert.Pre_counted.Gen.facts, Cert.Post_near.Gen.facts,
    fun m ρ _ => Cert.Kernel.Gen.frame m ρ,
    fun m ρ _ => Cert.Flip.Gen.frame m ρ,
    fun m ρ _ => Cert.FlipIdeal.Gen.frame m ρ,
    fun m ρ _ => Cert.FlipIdeal.Gen.frame m ρ,
    fun m ρ _ => Cert.Exact.Gen.frame m ρ,
    fun m ρ _ => Cert.ExactIdeal.Gen.frame m ρ,
    fun m ρ _ => Cert.ExactIdeal.Gen.frame m ρ,
    fun m ρ _ => Cert.Plain.Gen.frame m ρ,
    fun m ρ _ => Cert.PlainIdeal.Gen.frame m ρ,
    reference_frame,
    fun m ρ _ => reference_frame m ρ trivial,
    trivial,
    named,
    trivial,
    Cert.Emb.holds,
    Cert.Emb.algebraic,
    Cert.Emb.plain_algebraic⟩

end Cert.Proof

end
